-- ==== Defs.lean ====
def Pre_Kernel [hPre_in_pool : Cert.Pre_in_pool.Facts] (m : (ℓ : Loc Cert.Kernel.nD Cert.Kernel.τ Cert.Kernel.sig) → Buf (Elt Bits) ℓ) : Prop :=
  ∀ c : Dev Cert.Kernel.nD,
    (Cert.Pre_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_pool : Cert.Pre_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_pool : Cert.Pre_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_0) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_pool : Cert.Pre_in_pool.Facts) (hPre_finite : Cert.Pre_finite.Facts),
    quiescent_Kernel (hKernel := hKernel) (hPre_in_pool := hPre_in_pool)
    ∧ quiescent_KernelIdeal (hKernelIdeal := hKernelIdeal) (hPre_in_pool := hPre_in_pool)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S40x112x64 : Shape := ⟨3, ![40, 112, 64]⟩
abbrev S40x112 : Shape := ⟨2, ![40, 112]⟩
abbrev S112 : Shape := ⟨1, ![112]⟩
abbrev S40x2x128 : Shape := ⟨3, ![40, 2, 128]⟩
abbrev S53x112x128x64 : Shape := ⟨4, ![53, 112, 128, 64]⟩
abbrev S53x112x128 : Shape := ⟨3, ![53, 112, 128]⟩
abbrev S40 : Shape := ⟨1, ![40]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bitsLt_bf16_f32 : FTy.bits .bf16 < FTy.bits .f32
  bcast_S_S40x112x64 : S_.BroadcastsInDim S40x112x64 (![] : Fin 0 → Fin S40x112x64.rank)
  reducesTo_S40x112x64_S_d0_1_2 : S40x112x64.ReducesTo [0, 1, 2] S_
  bcast_S_S40x112 : S_.BroadcastsInDim S40x112 (![] : Fin 0 → Fin S40x112.rank)
  reducesTo_S40x112_S_d0_1 : S40x112.ReducesTo [0, 1] S_
  bcast_S_S112 : S_.BroadcastsInDim S112 (![] : Fin 0 → Fin S112.rank)
  reducesTo_S112_S_d0 : S112.ReducesTo [0] S_
  bcast_S_S40x2x128 : S_.BroadcastsInDim S40x2x128 (![] : Fin 0 → Fin S40x2x128.rank)
  reducesTo_S40x2x128_S_d0_1_2 : S40x2x128.ReducesTo [0, 1, 2] S_

variable [Facts]

def fn_part1 {F : FTy → Type} [FloatOps F] (main_arg2 : FVec F S112 .f32) (main_arg4 : FVec F S40x2x128 .bf16) (main_arg5 : FVec F S40x2x128 .bf16) (main_v11 : IVec S_ 1) (main_v16 : IVec S_ 1) : IVec S_ 1 :=
  let main_v17 : IVec S_ 1 := andi main_v11 main_v16
  let main_v18 : FVec F S112 .f32 := Host.absf main_arg2
  let main_cst_5 : FVec F S_ .f32 := constant S_ .f32 0x7F800000#32
  let main_v19 : FVec F S112 .f32 := broadcastInDim S112 ![] bcast_S_S112 main_cst_5
  let main_v20 : IVec S112 1 := cmpf .olt main_v18 main_v19
  let main_c_6 : IVec S_ 1 := constantI S_ 1 1#1
  let main_v21 : IVec S_ 1 := (fun x v => Host.reduce IntOp.andi x v reducesTo_S112_S_d0 h_S_) main_v20 main_c_6
  let main_v22 : IVec S_ 1 := andi main_v17 main_v21
  let main_v23 : FVec F S40x2x128 .f32 := (extf .f32 · bitsLt_bf16_f32) main_arg4
  let main_v24 : FVec F S40x2x128 .f32 := Host.absf main_v23
  let main_cst_7 : FVec F S_ .f32 := constant S_ .f32 0x7F800000#32
  let main_v25 : FVec F S40x2x128 .f32 := broadcastInDim S40x2x128 ![] bcast_S_S40x2x128 main_cst_7
  let main_v26 : IVec S40x2x128 1 := cmpf .olt main_v24 main_v25
  let main_c_8 : IVec S_ 1 := constantI S_ 1 1#1
  let main_v27 : IVec S_ 1 := (fun x v => Host.reduce IntOp.andi x v reducesTo_S40x2x128_S_d0_1_2 h_S_) main_v26 main_c_8
  let main_v28 : IVec S_ 1 := andi main_v22 main_v27
  let main_v29 : FVec F S40x2x128 .f32 := (extf .f32 · bitsLt_bf16_f32) main_arg5
  let main_v30 : FVec F S40x2x128 .f32 := Host.absf main_v29
  let main_cst_9 : FVec F S_ .f32 := constant S_ .f32 0x7F800000#32
  let main_v31 : FVec F S40x2x128 .f32 := broadcastInDim S40x2x128 ![] bcast_S_S40x2x128 main_cst_9
  let main_v32 : IVec S40x2x128 1 := cmpf .olt main_v30 main_v31
  let main_c_10 : IVec S_ 1 := constantI S_ 1 1#1
  let main_v33 : IVec S_ 1 := (fun x v => Host.reduce IntOp.andi x v reducesTo_S40x2x128_S_d0_1_2 h_S_) main_v32 main_c_10
  let main_v34 : IVec S_ 1 := andi main_v28 main_v33
  main_v34

def fn {F : FTy → Type} [FloatOps F] (main_arg0 : FVec F S40x112x64 .bf16) (main_arg1 : FVec F S40x112 .bf16) (main_arg2 : FVec F S112 .f32) (main_arg3 : FVec F S112 .f32) (main_arg4 : FVec F S40x2x128 .bf16) (main_arg5 : FVec F S40x2x128 .bf16) (main_arg6 : FVec F S112 .f32) (main_arg7 : FVec F S53x112x128x64 .fp8e4m3) (main_arg8 : FVec F S53x112x128 .f32) (main_arg9 : IVec S40 32) : IVec S_ 1 :=
  let main_c : IVec S_ 32 := constantI S_ 32 0#32
  let main_v0 : IVec S40 32 := broadcastInDim S40 ![] bcast_S_S40 main_c
  let main_v1 : IVec S40 1 := cmpi .sge main_arg9 main_v0
  let main_c_0 : IVec S_ 32 := constantI S_ 32 53#32
  let main_v2 : IVec S40 32 := broadcastInDim S40 ![] bcast_S_S40 main_c_0
  let main_v3 : IVec S40 1 := cmpi .slt main_arg9 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_v6 : FVec F S40x112x64 .f32 := (extf .f32 · bitsLt_bf16_f32) main_arg0
  let main_v7 : FVec F S40x112x64 .f32 := Host.absf main_v6
  let main_cst : FVec F S_ .f32 := constant S_ .f32 0x7F800000#32
  let main_v8 : FVec F S40x112x64 .f32 := broadcastInDim S40x112x64 ![] bcast_S_S40x112x64 main_cst
  let main_v9 : IVec S40x112x64 1 := cmpf .olt main_v7 main_v8
  let main_c_2 : IVec S_ 1 := constantI S_ 1 1#1
  let main_v10 : IVec S_ 1 := (fun x v => Host.reduce IntOp.andi x v reducesTo_S40x112x64_S_d0_1_2 h_S_) main_v9 main_c_2
  let main_v11 : IVec S_ 1 := andi main_v5 main_v10
  let main_v12 : FVec F S40x112 .f32 := (extf .f32 · bitsLt_bf16_f32) main_arg1
  let main_v13 : FVec F S40x112 .f32 := Host.absf main_v12
  let main_cst_3 : FVec F S_ .f32 := constant S_ .f32 0x7F800000#32
  let main_v14 : FVec F S40x112 .f32 := broadcastInDim S40x112 ![] bcast_S_S40x112 main_cst_3
  let main_v15 : IVec S40x112 1 := cmpf .olt main_v13 main_v14
  let main_c_4 : IVec S_ 1 := constantI S_ 1 1#1
  let main_v16 : IVec S_ 1 := (fun x v => Host.reduce IntOp.andi x v reducesTo_S40x112_S_d0_1 h_S_) main_v15 main_c_4
  fn_part1 (F := F) main_arg2 main_arg4 main_arg5 main_v11 main_v16
-- ==== Pre_in_pool.lean ====
abbrev S40x112x64 : Shape := ⟨3, ![40, 112, 64]⟩
abbrev S40x112 : Shape := ⟨2, ![40, 112]⟩
abbrev S112 : Shape := ⟨1, ![112]⟩
abbrev S40x2x128 : Shape := ⟨3, ![40, 2, 128]⟩
abbrev S53x112x128x64 : Shape := ⟨4, ![53, 112, 128, 64]⟩
abbrev S53x112x128 : Shape := ⟨3, ![53, 112, 128]⟩
abbrev S40 : Shape := ⟨1, ![40]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S40x112x64 .bf16) (main_arg1 : FVec F S40x112 .bf16) (main_arg2 : FVec F S112 .f32) (main_arg3 : FVec F S112 .f32) (main_arg4 : FVec F S40x2x128 .bf16) (main_arg5 : FVec F S40x2x128 .bf16) (main_arg6 : FVec F S112 .f32) (main_arg7 : FVec F S53x112x128x64 .fp8e4m3) (main_arg8 : FVec F S53x112x128 .f32) (main_arg9 : IVec S40 32) : IVec S_ 1 :=
  let main_c : IVec S_ 32 := constantI S_ 32 0#32
  let main_v0 : IVec S40 32 := broadcastInDim S40 ![] bcast_S_S40 main_c
  let main_v1 : IVec S40 1 := cmpi .sge main_arg9 main_v0
  let main_c_0 : IVec S_ 32 := constantI S_ 32 53#32
  let main_v2 : IVec S40 32 := broadcastInDim S40 ![] bcast_S_S40 main_c_0
  let main_v3 : IVec S40 1 := cmpi .slt main_arg9 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Kernel.lean ====
abbrev S40x112x64 : Shape := ⟨3, ![40, 112, 64]⟩
abbrev S40x112 : Shape := ⟨2, ![40, 112]⟩
abbrev S112 : Shape := ⟨1, ![112]⟩
abbrev S40x2x128 : Shape := ⟨3, ![40, 2, 128]⟩
abbrev S53x112x128x64 : Shape := ⟨4, ![53, 112, 128, 64]⟩
abbrev S53x112x128 : Shape := ⟨3, ![53, 112, 128]⟩
abbrev S40 : Shape := ⟨1, ![40]⟩
abbrev S40x64x112 : Shape := ⟨3, ![40, 64, 112]⟩
abbrev S53x112x64x128 : Shape := ⟨4, ![53, 112, 64, 128]⟩
abbrev S1x112 : Shape := ⟨2, ![1, 112]⟩
abbrev S40x112x64x128 : Shape := ⟨4, ![40, 112, 64, 128]⟩
abbrev S40x112x128 : Shape := ⟨3, ![40, 112, 128]⟩
abbrev S1x64x112 : Shape := ⟨3, ![1, 64, 112]⟩
abbrev S1x2x128 : Shape := ⟨3, ![1, 2, 128]⟩
abbrev S1x112x128 : Shape := ⟨3, ![1, 112, 128]⟩
abbrev S1 : Shape := ⟨1, ![1]⟩
abbrev S1x112x64x128 : Shape := ⟨4, ![1, 112, 64, 128]⟩
abbrev S14x64x128 : Shape := ⟨3, ![14, 64, 128]⟩
abbrev S128x8 : Shape := ⟨2, ![128, 8]⟩
abbrev S64x128 : Shape := ⟨2, ![64, 128]⟩
abbrev S8x128 : Shape := ⟨2, ![8, 128]⟩
abbrev S128x128 : Shape := ⟨2, ![128, 128]⟩
abbrev S64x112 : Shape := ⟨2, ![64, 112]⟩
abbrev S64x8 : Shape := ⟨2, ![64, 8]⟩
abbrev S1x64x8 : Shape := ⟨3, ![1, 64, 8]⟩
abbrev S1x16 : Shape := ⟨2, ![1, 16]⟩
abbrev S1x128 : Shape := ⟨2, ![1, 128]⟩
abbrev S2x128 : Shape := ⟨2, ![2, 128]⟩
abbrev S1x8x128 : Shape := ⟨3, ![1, 8, 128]⟩
abbrev S8x1 : Shape := ⟨2, ![8, 1]⟩
abbrev S1x64x128 : Shape := ⟨3, ![1, 64, 128]⟩
abbrev S1x1x64x128 : Shape := ⟨4, ![1, 1, 64, 128]⟩
abbrev S64x1 : Shape := ⟨2, ![64, 1]⟩
abbrev S16x128 : Shape := ⟨2, ![16, 128]⟩
abbrev S1x8x64x128 : Shape := ⟨4, ![1, 8, 64, 128]⟩
abbrev S8x64x128 : Shape := ⟨3, ![8, 64, 128]⟩
abbrev S512x128 : Shape := ⟨2, ![512, 128]⟩
abbrev S16x512 : Shape := ⟨2, ![16, 512]⟩
abbrev S2 : Shape := ⟨1, ![2]⟩
abbrev S2x1 : Shape := ⟨2, ![2, 1]⟩
abbrev S1x1 : Shape := ⟨2, ![1, 1]⟩
abbrev S40x112x128x64 : Shape := ⟨4, ![40, 112, 128, 64]⟩

abbrev nBuf : Space → Nat
  | .hbm => 19
  | .vmem => 27
  | .smem => 1
  | _ => 0

abbrev bufTy : (tb : Table) → Fin (tcTables nBuf tb) → BufTy
  | .hbm, ⟨0, _⟩ => ⟨S40x112x64, .bf16⟩
  | .hbm, ⟨1, _⟩ => ⟨S40x112, .bf16⟩
  | .hbm, ⟨2, _⟩ => ⟨S112, .f32⟩
  | .hbm, ⟨3, _⟩ => ⟨S112, .f32⟩
  | .hbm, ⟨4, _⟩ => ⟨S40x2x128, .bf16⟩
  | .hbm, ⟨5, _⟩ => ⟨S40x2x128, .bf16⟩
  | .hbm, ⟨6, _⟩ => ⟨S112, .f32⟩
  | .hbm, ⟨7, _⟩ => ⟨S53x112x128x64, .fp8e4m3⟩
  | .hbm, ⟨8, _⟩ => ⟨S53x112x128, .f32⟩
  | .hbm, ⟨9, _⟩ => ⟨S40x64x112, .bf16⟩
  | .hbm, ⟨10, _⟩ => ⟨S53x112x64x128, .fp8e4m3⟩
  | .hbm, ⟨11, _⟩ => ⟨S1x112, .f32⟩
  | .hbm, ⟨12, _⟩ => ⟨S1x112, .f32⟩
  | .hbm, ⟨13, _⟩ => ⟨S1x112, .f32⟩
  | .hbm, ⟨14, _⟩ => ⟨S40x64x112, .bf16⟩
  | .hbm, ⟨15, _⟩ => ⟨S40x112x64x128, .fp8e4m3⟩
  | .hbm, ⟨16, _⟩ => ⟨S40x112x128, .f32⟩
  | .hbm, ⟨17, _⟩ => ⟨S40x112x64, .bf16⟩
  | .hbm, ⟨18, _⟩ => ⟨S40x112x128x64, .fp8e4m3⟩
  | .local _ .vmem, ⟨0, _⟩ => ⟨S40x112, .bf16⟩
  | .local _ .vmem, ⟨1, _⟩ => ⟨S1x112, .f32⟩
  | .local _ .vmem, ⟨2, _⟩ => ⟨S1x112, .f32⟩
  | .local _ .vmem, ⟨3, _⟩ => ⟨S1x112, .f32⟩
  | .local _ .vmem, ⟨4, _⟩ => ⟨S1x64x112, .bf16⟩
  | .local _ .vmem, ⟨5, _⟩ => ⟨S1x64x112, .bf16⟩
  | .local _ .vmem, ⟨6, _⟩ => ⟨S1x2x128, .bf16⟩
  | .local _ .vmem, ⟨7, _⟩ => ⟨S1x2x128, .bf16⟩
  | .local _ .vmem, ⟨8, _⟩ => ⟨S1x2x128, .bf16⟩
  | .local _ .vmem, ⟨9, _⟩ => ⟨S1x2x128, .bf16⟩
  | .local _ .vmem, ⟨10, _⟩ => ⟨S1x112x128, .f32⟩
  | .local _ .vmem, ⟨11, _⟩ => ⟨S1x112x128, .f32⟩
  | .local _ .vmem, ⟨12, _⟩ => ⟨S1x112x64x128, .fp8e4m3⟩
  | .local _ .vmem, ⟨13, _⟩ => ⟨S1x112x64x128, .fp8e4m3⟩
  | .local _ .vmem, ⟨14, _⟩ => ⟨S1x64x112, .bf16⟩
  | .local _ .vmem, ⟨15, _⟩ => ⟨S1x64x112, .bf16⟩
  | .local _ .vmem, ⟨16, _⟩ => ⟨S1x112x64x128, .fp8e4m3⟩
  | .local _ .vmem, ⟨17, _⟩ => ⟨S1x112x64x128, .fp8e4m3⟩
  | .local _ .vmem, ⟨18, _⟩ => ⟨S1x112x128, .f32⟩
  | .local _ .vmem, ⟨19, _⟩ => ⟨S1x112x128, .f32⟩
  | .local _ .vmem, ⟨20, _⟩ => ⟨S40x112, .f32⟩
  | .local _ .vmem, ⟨21, _⟩ => ⟨S40x112, .f32⟩
  | .local _ .vmem, ⟨22, _⟩ => ⟨S14x64x128, .f32⟩
  | .local _ .vmem, ⟨23, _⟩ => ⟨S128x8, .f32⟩
  | .local _ .vmem, ⟨24, _⟩ => ⟨S64x128, .f32⟩
  | .local _ .vmem, ⟨25, _⟩ => ⟨S8x128, .f32⟩
  | .local _ .vmem, ⟨26, _⟩ => ⟨S128x128, .f32⟩
  | .local _ .smem, ⟨0, _⟩ => ⟨S40, .i32⟩
  | _, _ => ⟨S40x112x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_arg9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v3 : Index := Scalar.indexCast arg0
  let c0 : Index := 0#32
  ![v3.toNat, 0]
@[reducible] def k0_t1_loop : Scf.Loop 32 :=
  let c0_i32_42 : BitVec 32 := 0#32
  let c7_i32 : BitVec 32 := 7#32
  let v86 : BitVec 32 := Scalar.addi c0_i32_42 c7_i32
  let c1_i32 : BitVec 32 := 1#32
  ⟨c0_i32_42, v86, c1_i32⟩
def k0_mult1 (k0_t1 : Fin k0_t1_loop.trips) : BitVec 32 :=
  let c0_i32_72 : BitVec 32 := 0#32
  let c0_i32_42 : BitVec 32 := 0#32
  let c1_i32 : BitVec 32 := 1#32
  let arg21 : BitVec 32 := Scf.iv c0_i32_42 c1_i32 k0_t1
  let v172 : BitVec 32 := Scalar.addi c0_i32_72 arg21
  let c8_i32 : BitVec 32 := 8#32
  let v173 : BitVec 32 := Scalar.muli v172 c8_i32
  v173
def k0_off3 (k0_t1 : Fin k0_t1_loop.trips) : Fin 3 → Nat :=
  let c0_73 : Index := 0#32
  let c0_i32_72 : BitVec 32 := 0#32
  let c0_i32_42 : BitVec 32 := 0#32
  let c1_i32 : BitVec 32 := 1#32
  let arg21 : BitVec 32 := Scf.iv c0_i32_42 c1_i32 k0_t1
  let v172 : BitVec 32 := Scalar.addi c0_i32_72 arg21
  let c8_i32 : BitVec 32 := 8#32
  let v173 : BitVec 32 := Scalar.muli v172 c8_i32
  let v174 : BitVec 32 := v173
  let v175 : Index := Scalar.indexCast v174
  let c0_74 : Index := 0#32
  ![0, v175.toNat, 0]
def k0_off4 (k0_t1 : Fin k0_t1_loop.trips) : Fin 2 → Nat :=
  let c0_i32_72 : BitVec 32 := 0#32
  let c0_i32_42 : BitVec 32 := 0#32
  let c1_i32 : BitVec 32 := 1#32
  let arg21 : BitVec 32 := Scf.iv c0_i32_42 c1_i32 k0_t1
  let v172 : BitVec 32 := Scalar.addi c0_i32_72 arg21
  let c8_i32 : BitVec 32 := 8#32
  let v173 : BitVec 32 := Scalar.muli v172 c8_i32
  let v174 : BitVec 32 := v173
  let v178 : Index := Scalar.indexCast v174
  let c0_75 : Index := 0#32
  ![v178.toNat, 0]
def k0_off5 (k0_t1 : Fin k0_t1_loop.trips) : Fin 3 → Nat :=
  let c0_i32_72 : BitVec 32 := 0#32
  let c0_i32_42 : BitVec 32 := 0#32
  let c1_i32 : BitVec 32 := 1#32
  let arg21 : BitVec 32 := Scf.iv c0_i32_42 c1_i32 k0_t1
  let v172 : BitVec 32 := Scalar.addi c0_i32_72 arg21
  let v182 : Index := Scalar.indexCast v172
  let c0_76 : Index := 0#32
  let c0_77 : Index := 0#32
  ![v182.toNat, 0, 0]
def k0_off6 (k0_t1 : Fin k0_t1_loop.trips) (c0_i32_78 : BitVec 32) : Fin 4 → Nat :=
  let c0_79 : Index := 0#32
  let c0_i32_72 : BitVec 32 := 0#32
  let c0_i32_42 : BitVec 32 := 0#32
  let c1_i32 : BitVec 32 := 1#32
  let arg21 : BitVec 32 := Scf.iv c0_i32_42 c1_i32 k0_t1
  let v172 : BitVec 32 := Scalar.addi c0_i32_72 arg21
  let c8_i32 : BitVec 32 := 8#32
  let v173 : BitVec 32 := Scalar.muli v172 c8_i32
  let v174 : BitVec 32 := v173
  let v185 : BitVec 32 := Scalar.addi v174 c0_i32_78
  let v186 : Index := Scalar.indexCast v185
  let c0_80 : Index := 0#32
  let c0_81 : Index := 0#32
  ![0, v186.toNat, 0, 0]
def k0_off7 (k0_t1 : Fin k0_t1_loop.trips) : Fin 4 → Nat :=
  let c0_218 : Index := 0#32
  let c0_i32_72 : BitVec 32 := 0#32
  let c0_i32_42 : BitVec 32 := 0#32
  let c1_i32 : BitVec 32 := 1#32
  let arg21 : BitVec 32 := Scf.iv c0_i32_42 c1_i32 k0_t1
  let v172 : BitVec 32 := Scalar.addi c0_i32_72 arg21
  let c8_i32 : BitVec 32 := 8#32
  let v173 : BitVec 32 := Scalar.muli v172 c8_i32
  let v174 : BitVec 32 := v173
  let v706 : Index := Scalar.indexCast v174
  let c0_219 : Index := 0#32
  let c0_220 : Index := 0#32
  ![0, v706.toNat, 0, 0]
def k0_off8 (k0_t1 : Fin k0_t1_loop.trips) : Fin 2 → Nat :=
  let c0_i32_72 : BitVec 32 := 0#32
  let c0_i32_42 : BitVec 32 := 0#32
  let c1_i32 : BitVec 32 := 1#32
  let arg21 : BitVec 32 := Scf.iv c0_i32_42 c1_i32 k0_t1
  let v172 : BitVec 32 := Scalar.addi c0_i32_72 arg21
  let c8_i32 : BitVec 32 := 8#32
  let v173 : BitVec 32 := Scalar.muli v172 c8_i32
  let v174 : BitVec 32 := v173
  let v1020 : Index := Scalar.indexCast v174
  let c0_319 : Index := 0#32
  ![v1020.toNat, 0]
@[reducible] def k0_t2_loop : Scf.Loop 32 :=
  let c0_i32_44 : BitVec 32 := 0#32
  let c7_i32_45 : BitVec 32 := 7#32
  let v89 : BitVec 32 := Scalar.addi c0_i32_44 c7_i32_45
  let c1_i32_46 : BitVec 32 := 1#32
  ⟨c0_i32_44, v89, c1_i32_46⟩
def k0_mult2 (k0_t2 : Fin k0_t2_loop.trips) : BitVec 32 :=
  let c7_i32_72 : BitVec 32 := 7#32
  let c0_i32_44 : BitVec 32 := 0#32
  let c1_i32_46 : BitVec 32 := 1#32
  let arg21 : BitVec 32 := Scf.iv c0_i32_44 c1_i32_46 k0_t2
  let v172 : BitVec 32 := Scalar.addi c7_i32_72 arg21
  let c8_i32 : BitVec 32 := 8#32
  let v173 : BitVec 32 := Scalar.muli v172 c8_i32
  v173
def k0_off9 (k0_t2 : Fin k0_t2_loop.trips) : Fin 3 → Nat :=
  let c0_73 : Index := 0#32
  let c7_i32_72 : BitVec 32 := 7#32
  let c0_i32_44 : BitVec 32 := 0#32
  let c1_i32_46 : BitVec 32 := 1#32
  let arg21 : BitVec 32 := Scf.iv c0_i32_44 c1_i32_46 k0_t2
  let v172 : BitVec 32 := Scalar.addi c7_i32_72 arg21
  let c8_i32 : BitVec 32 := 8#32
  let v173 : BitVec 32 := Scalar.muli v172 c8_i32
  let v174 : BitVec 32 := v173
  let v175 : Index := Scalar.indexCast v174
  let c0_74 : Index := 0#32
  ![0, v175.toNat, 0]
def k0_off10 (k0_t2 : Fin k0_t2_loop.trips) : Fin 2 → Nat :=
  let c7_i32_72 : BitVec 32 := 7#32
  let c0_i32_44 : BitVec 32 := 0#32
  let c1_i32_46 : BitVec 32 := 1#32
  let arg21 : BitVec 32 := Scf.iv c0_i32_44 c1_i32_46 k0_t2
  let v172 : BitVec 32 := Scalar.addi c7_i32_72 arg21
  let c8_i32 : BitVec 32 := 8#32
  let v173 : BitVec 32 := Scalar.muli v172 c8_i32
  let v174 : BitVec 32 := v173
  let v178 : Index := Scalar.indexCast v174
  let c0_75 : Index := 0#32
  ![v178.toNat, 0]
def k0_off11 (k0_t2 : Fin k0_t2_loop.trips) : Fin 3 → Nat :=
  let c7_i32_72 : BitVec 32 := 7#32
  let c0_i32_44 : BitVec 32 := 0#32
  let c1_i32_46 : BitVec 32 := 1#32
  let arg21 : BitVec 32 := Scf.iv c0_i32_44 c1_i32_46 k0_t2
  let v172 : BitVec 32 := Scalar.addi c7_i32_72 arg21
  let v182 : Index := Scalar.indexCast v172
  let c0_76 : Index := 0#32
  let c0_77 : Index := 0#32
  ![v182.toNat, 0, 0]
def k0_off12 (k0_t2 : Fin k0_t2_loop.trips) (c0_i32_78 : BitVec 32) : Fin 4 → Nat :=
  let c0_79 : Index := 0#32
  let c7_i32_72 : BitVec 32 := 7#32
  let c0_i32_44 : BitVec 32 := 0#32
  let c1_i32_46 : BitVec 32 := 1#32
  let arg21 : BitVec 32 := Scf.iv c0_i32_44 c1_i32_46 k0_t2
  let v172 : BitVec 32 := Scalar.addi c7_i32_72 arg21
  let c8_i32 : BitVec 32 := 8#32
  let v173 : BitVec 32 := Scalar.muli v172 c8_i32
  let v174 : BitVec 32 := v173
  let v185 : BitVec 32 := Scalar.addi v174 c0_i32_78
  let v186 : Index := Scalar.indexCast v185
  let c0_80 : Index := 0#32
  let c0_81 : Index := 0#32
  ![0, v186.toNat, 0, 0]
def k0_off13 (k0_t2 : Fin k0_t2_loop.trips) : Fin 4 → Nat :=
  let c0_218 : Index := 0#32
  let c7_i32_72 : BitVec 32 := 7#32
  let c0_i32_44 : BitVec 32 := 0#32
  let c1_i32_46 : BitVec 32 := 1#32
  let arg21 : BitVec 32 := Scf.iv c0_i32_44 c1_i32_46 k0_t2
  let v172 : BitVec 32 := Scalar.addi c7_i32_72 arg21
  let c8_i32 : BitVec 32 := 8#32
  let v173 : BitVec 32 := Scalar.muli v172 c8_i32
  let v174 : BitVec 32 := v173
  let v706 : Index := Scalar.indexCast v174
  let c0_219 : Index := 0#32
  let c0_220 : Index := 0#32
  ![0, v706.toNat, 0, 0]
def k0_off14 (k0_t2 : Fin k0_t2_loop.trips) : Fin 2 → Nat :=
  let c7_i32_72 : BitVec 32 := 7#32
  let c0_i32_44 : BitVec 32 := 0#32
  let c1_i32_46 : BitVec 32 := 1#32
  let arg21 : BitVec 32 := Scf.iv c0_i32_44 c1_i32_46 k0_t2
  let v172 : BitVec 32 := Scalar.addi c7_i32_72 arg21
  let c8_i32 : BitVec 32 := 8#32
  let v173 : BitVec 32 := Scalar.muli v172 c8_i32
  let v174 : BitVec 32 := v173
  let v1020 : Index := Scalar.indexCast v174
  let c0_319 : Index := 0#32
  ![v1020.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S40x112 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x112 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x112x64x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x112 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x112x64x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x112x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S40x112x64 : Shape := ⟨3, ![40, 112, 64]⟩
abbrev S40x112 : Shape := ⟨2, ![40, 112]⟩
abbrev S112 : Shape := ⟨1, ![112]⟩
abbrev S40x2x128 : Shape := ⟨3, ![40, 2, 128]⟩
abbrev S53x112x128x64 : Shape := ⟨4, ![53, 112, 128, 64]⟩
abbrev S53x112x128 : Shape := ⟨3, ![53, 112, 128]⟩
abbrev S40 : Shape := ⟨1, ![40]⟩
abbrev S_ : Shape := ⟨0, ![]⟩
abbrev S40x1 : Shape := ⟨2, ![40, 1]⟩
abbrev S40x112x128x64 : Shape := ⟨4, ![40, 112, 128, 64]⟩
abbrev S40x112x128 : Shape := ⟨3, ![40, 112, 128]⟩
abbrev S40x112x128x1 : Shape := ⟨4, ![40, 112, 128, 1]⟩
abbrev S1x112 : Shape := ⟨2, ![1, 112]⟩
abbrev S40x2x1x128 : Shape := ⟨4, ![40, 2, 1, 128]⟩
abbrev S40x2x56x128 : Shape := ⟨4, ![40, 2, 56, 128]⟩
abbrev S40x112x1x1 : Shape := ⟨4, ![40, 112, 1, 1]⟩
abbrev S40x112x1 : Shape := ⟨3, ![40, 112, 1]⟩
abbrev S40x112x1x64 : Shape := ⟨4, ![40, 112, 1, 64]⟩
abbrev S1x112x1 : Shape := ⟨3, ![1, 112, 1]⟩

abbrev nBuf : Space → Nat
  | .hbm => 31
  | .vmem => 12
  | .smem => 0
  | _ => 0

abbrev bufTy : (tb : Table) → Fin (tcTables nBuf tb) → BufTy
  | .hbm, ⟨0, _⟩ => ⟨S40x112x64, .bf16⟩
  | .hbm, ⟨1, _⟩ => ⟨S40x112, .bf16⟩
  | .hbm, ⟨2, _⟩ => ⟨S112, .f32⟩
  | .hbm, ⟨3, _⟩ => ⟨S112, .f32⟩
  | .hbm, ⟨4, _⟩ => ⟨S40x2x128, .bf16⟩
  | .hbm, ⟨5, _⟩ => ⟨S40x2x128, .bf16⟩
  | .hbm, ⟨6, _⟩ => ⟨S112, .f32⟩
  | .hbm, ⟨7, _⟩ => ⟨S53x112x128x64, .fp8e4m3⟩
  | .hbm, ⟨8, _⟩ => ⟨S53x112x128, .f32⟩
  | .hbm, ⟨9, _⟩ => ⟨S40, .i32⟩
  | .hbm, ⟨10, _⟩ => ⟨S_, .i32⟩
  | .hbm, ⟨11, _⟩ => ⟨S40, .i32⟩
  | .hbm, ⟨12, _⟩ => ⟨S40, .i1⟩
  | .hbm, ⟨13, _⟩ => ⟨S_, .i32⟩
  | .hbm, ⟨14, _⟩ => ⟨S40, .i32⟩
  | .hbm, ⟨15, _⟩ => ⟨S40, .i32⟩
  | .hbm, ⟨16, _⟩ => ⟨S40, .i32⟩
  | .hbm, ⟨17, _⟩ => ⟨S40x1, .i32⟩
  | .hbm, ⟨18, _⟩ => ⟨S40x112x128x64, .fp8e4m3⟩
  | .hbm, ⟨19, _⟩ => ⟨S_, .i32⟩
  | .hbm, ⟨20, _⟩ => ⟨S40, .i32⟩
  | .hbm, ⟨21, _⟩ => ⟨S40, .i1⟩
  | .hbm, ⟨22, _⟩ => ⟨S_, .i32⟩
  | .hbm, ⟨23, _⟩ => ⟨S40, .i32⟩
  | .hbm, ⟨24, _⟩ => ⟨S40, .i32⟩
  | .hbm, ⟨25, _⟩ => ⟨S40, .i32⟩
  | .hbm, ⟨26, _⟩ => ⟨S40x1, .i32⟩
  | .hbm, ⟨27, _⟩ => ⟨S40x112x128, .f32⟩
  | .hbm, ⟨28, _⟩ => ⟨S40x112x64, .bf16⟩
  | .hbm, ⟨29, _⟩ => ⟨S40x112x128x64, .fp8e4m3⟩
  | .hbm, ⟨30, _⟩ => ⟨S40x112x128, .f32⟩
  | .local _ .vmem, ⟨0, _⟩ => ⟨S40x112x64, .bf16⟩
  | .local _ .vmem, ⟨1, _⟩ => ⟨S40x112, .bf16⟩
  | .local _ .vmem, ⟨2, _⟩ => ⟨S112, .f32⟩
  | .local _ .vmem, ⟨3, _⟩ => ⟨S112, .f32⟩
  | .local _ .vmem, ⟨4, _⟩ => ⟨S40x2x128, .bf16⟩
  | .local _ .vmem, ⟨5, _⟩ => ⟨S40x2x128, .bf16⟩
  | .local _ .vmem, ⟨6, _⟩ => ⟨S112, .f32⟩
  | .local _ .vmem, ⟨7, _⟩ => ⟨S40x112x128x64, .fp8e4m3⟩
  | .local _ .vmem, ⟨8, _⟩ => ⟨S40x112x128, .f32⟩
  | .local _ .vmem, ⟨9, _⟩ => ⟨S40x112x64, .bf16⟩
  | .local _ .vmem, ⟨10, _⟩ => ⟨S40x112x128x64, .fp8e4m3⟩
  | .local _ .vmem, ⟨11, _⟩ => ⟨S40x112x128, .f32⟩
  | _, _ => ⟨S40x112x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S40x112x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x112 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S112 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x112x128x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x112x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x112x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x112x128x64 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S40x112x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.IdealKit.lean ====
/- The host lines around the kernel, the table of pool rows, the blocks its windows read and the buffers it is handed. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev bodyAt0 (a : (pcfg0 (F := F)).Adm) (t : Fin (cfg0 a).N) : Prog (TpuEff nD τ sig (Elt F) Λ₀ .tc) PUnit :=
  cc0_mamba2_decode (grid0.coords t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S40 .i32 := Memref.whole main_arg9
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin grid0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, e0]
    word_cmp
   : ∀ t : Fin grid0.N, cond0_0 (grid0.coords t) ↔ t.val % 40 = 0)

abbrev VO0_9 : View sig .tc .vmem S1x64x112 .bf16 := (Memref.whole cc0_stg9_0 : Memref sig .tc .vmem S1x64x112 .bf16).view
abbrev VO0_10 : View sig .tc .vmem S1x112x64x128 .fp8e4m3 := (Memref.whole cc0_stg10_0 : Memref sig .tc .vmem S1x112x64x128 .fp8e4m3).view
abbrev VO0_11 : View sig .tc .vmem S1x112x128 .f32 := (Memref.whole cc0_stg11_0 : Memref sig .tc .vmem S1x112x128 .f32).view
abbrev ms0_0 (hO : Ok m) (t : Fin (cfgM m hO).N) : Memref sig .tc .vmem S40x112 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x112 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x112 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x112 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x64x112 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x112x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x112x64x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x64x112 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x112x64x128 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x112x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev scM0_0 : Memref sig .tc .vmem S40x112 .f32 := Memref.whole cc0_scratch0
abbrev scM0_1 : Memref sig .tc .vmem S40x112 .f32 := Memref.whole cc0_scratch1
abbrev scM0_2 : Memref sig .tc .vmem S14x64x128 .f32 := Memref.whole cc0_scratch2
abbrev scM0_3 : Memref sig .tc .vmem S128x8 .f32 := Memref.whole cc0_scratch3
abbrev scM0_4 : Memref sig .tc .vmem S64x128 .f32 := Memref.whole cc0_scratch4
abbrev scM0_5 : Memref sig .tc .vmem S8x128 .f32 := Memref.whole cc0_scratch5
abbrev scM0_6 : Memref sig .tc .vmem S128x128 .f32 := Memref.whole cc0_scratch6
abbrev VS0_0 : View sig .tc .vmem S40x112 .f32 := scM0_0.view
abbrev VS0_1 : View sig .tc .vmem S40x112 .f32 := scM0_1.view
abbrev VS0_2 : View sig .tc .vmem S14x64x128 .f32 := scM0_2.view
abbrev VS0_4 : View sig .tc .vmem S64x128 .f32 := scM0_4.view
abbrev VS0_5 : View sig .tc .vmem S8x128 .f32 := scM0_5.view
abbrev VS0_6 : View sig .tc .vmem S128x128 .f32 := scM0_6.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Run

end
-- ==== Proof.IdealFrame.lean ====
/- The kernel body runs at every grid point, whatever its scratch and output buffers hold, and so the program runs and leaves its arguments unchanged. -/
module

public import proofs.«01_k».proof.Proof.IdealKit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The kernel body on whole staging buffers: the inputs come back as they were, the outputs and the scratch buffers at some contents. -/
theorem body_runs (c : Dev nD) (i : grid0.Coords) (arg2 : Memref sig .tc .vmem S40x112 .bf16) (harg2 : arg2.IsWhole) (arg3 : Memref sig .tc .vmem S1x112 .f32) (harg3 : arg3.IsWhole) (arg4 : Memref sig .tc .vmem S1x112 .f32) (harg4 : arg4.IsWhole) (arg5 : Memref sig .tc .vmem S1x112 .f32) (harg5 : arg5.IsWhole) (arg6 : Memref sig .tc .vmem S1x64x112 .bf16) (harg6 : arg6.IsWhole) (arg7 : Memref sig .tc .vmem S1x2x128 .bf16) (harg7 : arg7.IsWhole) (arg8 : Memref sig .tc .vmem S1x2x128 .bf16) (harg8 : arg8.IsWhole) (arg9 : Memref sig .tc .vmem S1x112x128 .f32) (harg9 : arg9.IsWhole) (arg10 : Memref sig .tc .vmem S1x112x64x128 .fp8e4m3) (harg10 : arg10.IsWhole) (arg11 : Memref sig .tc .vmem S1x64x112 .bf16) (harg11 : arg11.IsWhole) (arg12 : Memref sig .tc .vmem S1x112x64x128 .fp8e4m3) (harg12 : arg12.IsWhole) (arg13 : Memref sig .tc .vmem S1x112x128 .f32) (harg13 : arg13.IsWhole) (arg14 : Memref sig .tc .vmem S40x112 .f32) (harg14 : arg14.IsWhole) (arg15 : Memref sig .tc .vmem S40x112 .f32) (harg15 : arg15.IsWhole) (arg16 : Memref sig .tc .vmem S14x64x128 .f32) (harg16 : arg16.IsWhole) (arg17 : Memref sig .tc .vmem S128x8 .f32) (harg17 : arg17.IsWhole) (arg18 : Memref sig .tc .vmem S64x128 .f32) (harg18 : arg18.IsWhole) (arg19 : Memref sig .tc .vmem S8x128 .f32) (harg19 : arg19.IsWhole) (arg20 : Memref sig .tc .vmem S128x128 .f32) (harg20 : arg20.IsWhole)
    (x0 : Vec F S40x112 .bf16) (x1 : Vec F S1x112 .f32) (x2 : Vec F S1x112 .f32) (x3 : Vec F S1x112 .f32) (x4 : Vec F S1x64x112 .bf16) (x5 : Vec F S1x2x128 .bf16) (x6 : Vec F S1x2x128 .bf16) (x7 : Vec F S1x112x128 .f32) (x8 : Vec F S1x112x64x128 .fp8e4m3) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0) -∗ K ⟨⟩))
      ⊢ wp frame (wpE (defs₀ (F := F)) Variants.none c none) E (cc0_mamba2_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc0 : cond0_0 i
  all_goals
    simp only [cc0_mamba2_decode_eq_skeleton]; unfold cc0_mamba2_decode_skel
    simp only [k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexact HT0

/-- The buffers the host lines after the kernel write: the two transposed results. -/
def written : Finset (Ref sig .tc) := {main_v6, main_v7}

/-- The proof data: inputs keep their blocks, nothing is said of the outputs, the scratch buffers hold anything. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => fun _ => Classical.arbitrary _
    | ⟨10, _⟩ => fun _ => Classical.arbitrary _
    | ⟨11, _⟩ => fun _ => Classical.arbitrary _
  Φ _ := iprop(Pipeline.ΦA spec0 c ∗ Pipeline.ΦT pre0 (tbl m) c)
  q _ := fullShare
  owed _ := 0

/-- The windows of which nothing is said. -/
def fgt0 : Fin 12 → Bool := fun w => match w with | 9 => true | 10 => true | 11 => true | _ => false

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := rfl
theorem after0_1 (hO : Ok m) (c : Dev nD) (t : Fin (cfgM m hO).N) : (dats m hO 0 c).after 1 t = iblk m hO c 1 t := rfl
theorem after0_2 (hO : Ok m) (c : Dev nD) (t : Fin (cfgM m hO).N) : (dats m hO 0 c).after 2 t = iblk m hO c 2 t := rfl
theorem after0_3 (hO : Ok m) (c : Dev nD) (t : Fin (cfgM m hO).N) : (dats m hO 0 c).after 3 t = iblk m hO c 3 t := rfl
theorem after0_4 (hO : Ok m) (c : Dev nD) (t : Fin (cfgM m hO).N) : (dats m hO 0 c).after 4 t = iblk m hO c 4 t := rfl
theorem after0_5 (hO : Ok m) (c : Dev nD) (t : Fin (cfgM m hO).N) : (dats m hO 0 c).after 5 t = iblk m hO c 5 t := rfl
theorem after0_6 (hO : Ok m) (c : Dev nD) (t : Fin (cfgM m hO).N) : (dats m hO 0 c).after 6 t = iblk m hO c 6 t := rfl
theorem after0_7 (hO : Ok m) (c : Dev nD) (t : Fin (cfgM m hO).N) : (dats m hO 0 c).after 7 t = iblk m hO c 7 t := rfl
theorem after0_8 (hO : Ok m) (c : Dev nD) (t : Fin (cfgM m hO).N) : (dats m hO 0 c).after 8 t = iblk m hO c 8 t := rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8,
    show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (body_runs c (grid0.coords t) _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  iintro ⟨H0, H1, H2, H3, H4, H5, H6, H7, H8, H9, H10, H11, HS0, HS1, HS2, HS3, HS4, HS5, HS6, HT0⟩
  isplitl [HS0 HS1 HS2 HS3 HS4 HS5 HS6 Hg HT0]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, the outputs forgotten. -/
theorem body_obligation (hO : Ok m) (c : Dev nD) :
    BodyObligation (dats (F := F) m hO 0 c) (defs₀ (F := F)) Variants.none () Set.univ fgt0 := fun t => by
  rw [bigSep_W0, bigSep_W0, defs₀_row m hO]
  exact triple_restated (sound_body m hO c t) rfl .rfl fun _ => .rfl

/-- The host lines after the kernel write the two transposed results only. -/
theorem sfx_written : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.nullary_writes, StableHlo.unary_writes, StableHlo.binary_writes, StableHlo.ternary_writes, StableHlo.quaternary_writes, StableHlo.reshape_writes, StableHlo.binaryIndexed_writes, Finset.mem_singleton] at hb
    have := (Proc.devRef_injective (τ := τ) .tc) hb
    subst this; unfold written; decide

set_option backward.isDefEq.respectTransparency.types false in
set_option maxHeartbeats 800000 in
/-- The launch, and every semaphore counter at zero at the end. -/
theorem run_main (hO : Ok m) : θ_run defs (onTc (τ := τ) (main (F := F))) (s₀ m ρ) (fun r =>
    Pipeline.RDat.FramePostR (cfgM m hO) (fun c => (dats m hO 0 c).toRForget fgt0) written (V m) r ∧ r.2.sem = fun _ => 0) :=
  Pipeline.θ_run_frameP_around_T_forget (Q' := _) pcfgs (fun _ => adm m hO) (dats m hO) (0 : Fin 1) launch0 defs₀ Variants.none fgt0 written m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_written)
    (hmain := hmain m Variants.none) (hA := A_eq m hO) (hpf := V_pre m) (hΦ := fun _ _ => rfl)

theorem rest_arg0 (hO : Ok m) : main_arg0 ∈ Pipeline.restRefs sig (cfgM m hO).spec \ written :=
  (by unfold written; decide : main_arg0 ∈ Pipeline.restRefs sig spec0 \ written)
theorem rest_arg2 (hO : Ok m) : main_arg2 ∈ Pipeline.restRefs sig (cfgM m hO).spec \ written :=
  (by unfold written; decide : main_arg2 ∈ Pipeline.restRefs sig spec0 \ written)
theorem rest_arg3 (hO : Ok m) : main_arg3 ∈ Pipeline.restRefs sig (cfgM m hO).spec \ written :=
  (by unfold written; decide : main_arg3 ∈ Pipeline.restRefs sig spec0 \ written)
theorem rest_arg6 (hO : Ok m) : main_arg6 ∈ Pipeline.restRefs sig (cfgM m hO).spec \ written :=
  (by unfold written; decide : main_arg6 ∈ Pipeline.restRefs sig spec0 \ written)
theorem rest_arg7 (hO : Ok m) : main_arg7 ∈ Pipeline.restRefs sig (cfgM m hO).spec \ written :=
  (by unfold written; decide : main_arg7 ∈ Pipeline.restRefs sig spec0 \ written)
theorem rest_arg9 (hO : Ok m) : main_arg9 ∈ Pipeline.restRefs sig (cfgM m hO).spec \ written :=
  (by unfold written; decide : main_arg9 ∈ Pipeline.restRefs sig spec0 \ written)

/-- The program runs, its arguments end as launched and every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
     ⟨(((h.1 c).2 main_arg0 (rest_arg0 m hO)).trans (V_main_arg0 m c)),
      (h.1.arr_in c 0 rfl).trans ((A_eq m hO c 0).trans (V_main_arg1 m c)),
      (((h.1 c).2 main_arg2 (rest_arg2 m hO)).trans (V_main_arg2 m c)),
      (((h.1 c).2 main_arg3 (rest_arg3 m hO)).trans (V_main_arg3 m c)),
      (h.1.arr_in c 5 rfl).trans ((A_eq m hO c 5).trans (V_main_arg4 m c)),
      (h.1.arr_in c 6 rfl).trans ((A_eq m hO c 6).trans (V_main_arg5 m c)),
      (((h.1 c).2 main_arg6 (rest_arg6 m hO)).trans (V_main_arg6 m c)),
      (((h.1 c).2 main_arg7 (rest_arg7 m hO)).trans (V_main_arg7 m c)),
      (h.1.arr_in c 7 rfl).trans ((A_eq m hO c 7).trans (V_main_arg8 m c)),
      (((h.1 c).2 main_arg9 (rest_arg9 m hO)).trans (V_main_arg9 m c))⟩, h.2⟩) (run_main m ρ hO)

end Cert.KernelIdeal.Run

end
-- ==== Proof.BitsKit.lean ====
/- The host lines around the kernel, the table of pool rows, the blocks its windows read and the buffers it is handed. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev bodyAt0 (a : (pcfg0 (F := F)).Adm) (t : Fin (cfg0 a).N) : Prog (TpuEff nD τ sig (Elt F) Λ₀ .tc) PUnit :=
  cc0_mamba2_decode (grid0.coords t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S40 .i32 := Memref.whole main_arg9
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin grid0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, e0]
    word_cmp
   : ∀ t : Fin grid0.N, cond0_0 (grid0.coords t) ↔ t.val % 40 = 0)

abbrev VO0_9 : View sig .tc .vmem S1x64x112 .bf16 := (Memref.whole cc0_stg9_0 : Memref sig .tc .vmem S1x64x112 .bf16).view
abbrev VO0_10 : View sig .tc .vmem S1x112x64x128 .fp8e4m3 := (Memref.whole cc0_stg10_0 : Memref sig .tc .vmem S1x112x64x128 .fp8e4m3).view
abbrev VO0_11 : View sig .tc .vmem S1x112x128 .f32 := (Memref.whole cc0_stg11_0 : Memref sig .tc .vmem S1x112x128 .f32).view
abbrev ms0_0 (hO : Ok m) (t : Fin (cfgM m hO).N) : Memref sig .tc .vmem S40x112 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x112 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x112 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x112 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x64x112 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x112x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x112x64x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x64x112 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x112x64x128 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x112x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev scM0_0 : Memref sig .tc .vmem S40x112 .f32 := Memref.whole cc0_scratch0
abbrev scM0_1 : Memref sig .tc .vmem S40x112 .f32 := Memref.whole cc0_scratch1
abbrev scM0_2 : Memref sig .tc .vmem S14x64x128 .f32 := Memref.whole cc0_scratch2
abbrev scM0_3 : Memref sig .tc .vmem S128x8 .f32 := Memref.whole cc0_scratch3
abbrev scM0_4 : Memref sig .tc .vmem S64x128 .f32 := Memref.whole cc0_scratch4
abbrev scM0_5 : Memref sig .tc .vmem S8x128 .f32 := Memref.whole cc0_scratch5
abbrev scM0_6 : Memref sig .tc .vmem S128x128 .f32 := Memref.whole cc0_scratch6
abbrev VS0_0 : View sig .tc .vmem S40x112 .f32 := scM0_0.view
abbrev VS0_1 : View sig .tc .vmem S40x112 .f32 := scM0_1.view
abbrev VS0_2 : View sig .tc .vmem S14x64x128 .f32 := scM0_2.view
abbrev VS0_4 : View sig .tc .vmem S64x128 .f32 := scM0_4.view
abbrev VS0_5 : View sig .tc .vmem S8x128 .f32 := scM0_5.view
abbrev VS0_6 : View sig .tc .vmem S128x128 .f32 := scM0_6.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Run

end
-- ==== Proof.BitsFrame.lean ====
/- The kernel body runs at every grid point, whatever its scratch and output buffers hold, and so the program runs and leaves its arguments unchanged. -/
module

public import proofs.«01_k».proof.Proof.BitsKit

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The kernel body on whole staging buffers: the inputs come back as they were, the outputs and the scratch buffers at some contents. -/
theorem body_runs (c : Dev nD) (i : grid0.Coords) (arg2 : Memref sig .tc .vmem S40x112 .bf16) (harg2 : arg2.IsWhole) (arg3 : Memref sig .tc .vmem S1x112 .f32) (harg3 : arg3.IsWhole) (arg4 : Memref sig .tc .vmem S1x112 .f32) (harg4 : arg4.IsWhole) (arg5 : Memref sig .tc .vmem S1x112 .f32) (harg5 : arg5.IsWhole) (arg6 : Memref sig .tc .vmem S1x64x112 .bf16) (harg6 : arg6.IsWhole) (arg7 : Memref sig .tc .vmem S1x2x128 .bf16) (harg7 : arg7.IsWhole) (arg8 : Memref sig .tc .vmem S1x2x128 .bf16) (harg8 : arg8.IsWhole) (arg9 : Memref sig .tc .vmem S1x112x128 .f32) (harg9 : arg9.IsWhole) (arg10 : Memref sig .tc .vmem S1x112x64x128 .fp8e4m3) (harg10 : arg10.IsWhole) (arg11 : Memref sig .tc .vmem S1x64x112 .bf16) (harg11 : arg11.IsWhole) (arg12 : Memref sig .tc .vmem S1x112x64x128 .fp8e4m3) (harg12 : arg12.IsWhole) (arg13 : Memref sig .tc .vmem S1x112x128 .f32) (harg13 : arg13.IsWhole) (arg14 : Memref sig .tc .vmem S40x112 .f32) (harg14 : arg14.IsWhole) (arg15 : Memref sig .tc .vmem S40x112 .f32) (harg15 : arg15.IsWhole) (arg16 : Memref sig .tc .vmem S14x64x128 .f32) (harg16 : arg16.IsWhole) (arg17 : Memref sig .tc .vmem S128x8 .f32) (harg17 : arg17.IsWhole) (arg18 : Memref sig .tc .vmem S64x128 .f32) (harg18 : arg18.IsWhole) (arg19 : Memref sig .tc .vmem S8x128 .f32) (harg19 : arg19.IsWhole) (arg20 : Memref sig .tc .vmem S128x128 .f32) (harg20 : arg20.IsWhole)
    (x0 : Vec F S40x112 .bf16) (x1 : Vec F S1x112 .f32) (x2 : Vec F S1x112 .f32) (x3 : Vec F S1x112 .f32) (x4 : Vec F S1x64x112 .bf16) (x5 : Vec F S1x2x128 .bf16) (x6 : Vec F S1x2x128 .bf16) (x7 : Vec F S1x112x128 .f32) (x8 : Vec F S1x112x64x128 .fp8e4m3) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0) -∗ K ⟨⟩))
      ⊢ wp frame (wpE (defs₀ (F := F)) Variants.none c none) E (cc0_mamba2_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc0 : cond0_0 i
  all_goals
    simp only [cc0_mamba2_decode_eq_skeleton]; unfold cc0_mamba2_decode_skel
    simp only [k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexact HT0

/-- The buffers the host lines after the kernel write: the two transposed results. -/
def written : Finset (Ref sig .tc) := {main_v6, main_v7}

/-- The proof data: inputs keep their blocks, nothing is said of the outputs, the scratch buffers hold anything. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => fun _ => Classical.arbitrary _
    | ⟨10, _⟩ => fun _ => Classical.arbitrary _
    | ⟨11, _⟩ => fun _ => Classical.arbitrary _
  Φ _ := iprop(Pipeline.ΦA spec0 c ∗ Pipeline.ΦT pre0 (tbl m) c)
  q _ := fullShare
  owed _ := 0

/-- The windows of which nothing is said. -/
def fgt0 : Fin 12 → Bool := fun w => match w with | 9 => true | 10 => true | 11 => true | _ => false

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := rfl
theorem after0_1 (hO : Ok m) (c : Dev nD) (t : Fin (cfgM m hO).N) : (dats m hO 0 c).after 1 t = iblk m hO c 1 t := rfl
theorem after0_2 (hO : Ok m) (c : Dev nD) (t : Fin (cfgM m hO).N) : (dats m hO 0 c).after 2 t = iblk m hO c 2 t := rfl
theorem after0_3 (hO : Ok m) (c : Dev nD) (t : Fin (cfgM m hO).N) : (dats m hO 0 c).after 3 t = iblk m hO c 3 t := rfl
theorem after0_4 (hO : Ok m) (c : Dev nD) (t : Fin (cfgM m hO).N) : (dats m hO 0 c).after 4 t = iblk m hO c 4 t := rfl
theorem after0_5 (hO : Ok m) (c : Dev nD) (t : Fin (cfgM m hO).N) : (dats m hO 0 c).after 5 t = iblk m hO c 5 t := rfl
theorem after0_6 (hO : Ok m) (c : Dev nD) (t : Fin (cfgM m hO).N) : (dats m hO 0 c).after 6 t = iblk m hO c 6 t := rfl
theorem after0_7 (hO : Ok m) (c : Dev nD) (t : Fin (cfgM m hO).N) : (dats m hO 0 c).after 7 t = iblk m hO c 7 t := rfl
theorem after0_8 (hO : Ok m) (c : Dev nD) (t : Fin (cfgM m hO).N) : (dats m hO 0 c).after 8 t = iblk m hO c 8 t := rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8,
    show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (body_runs c (grid0.coords t) _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  iintro ⟨H0, H1, H2, H3, H4, H5, H6, H7, H8, H9, H10, H11, HS0, HS1, HS2, HS3, HS4, HS5, HS6, HT0⟩
  isplitl [HS0 HS1 HS2 HS3 HS4 HS5 HS6 Hg HT0]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, the outputs forgotten. -/
theorem body_obligation (hO : Ok m) (c : Dev nD) :
    BodyObligation (dats (F := F) m hO 0 c) (defs₀ (F := F)) Variants.none () Set.univ fgt0 := fun t => by
  rw [bigSep_W0, bigSep_W0, defs₀_row m hO]
  exact triple_restated (sound_body m hO c t) rfl .rfl fun _ => .rfl

/-- The host lines after the kernel write the two transposed results only. -/
theorem sfx_written : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.nullary_writes, StableHlo.unary_writes, StableHlo.binary_writes, StableHlo.ternary_writes, StableHlo.quaternary_writes, StableHlo.reshape_writes, StableHlo.binaryIndexed_writes, Finset.mem_singleton] at hb
    have := (Proc.devRef_injective (τ := τ) .tc) hb
    subst this; unfold written; decide

set_option backward.isDefEq.respectTransparency.types false in
set_option maxHeartbeats 800000 in
/-- The launch, and every semaphore counter at zero at the end. -/
theorem run_main (hO : Ok m) : θ_run defs (onTc (τ := τ) (main (F := F))) (s₀ m ρ) (fun r =>
    Pipeline.RDat.FramePostR (cfgM m hO) (fun c => (dats m hO 0 c).toRForget fgt0) written (V m) r ∧ r.2.sem = fun _ => 0) :=
  Pipeline.θ_run_frameP_around_T_forget (Q' := _) pcfgs (fun _ => adm m hO) (dats m hO) (0 : Fin 1) launch0 defs₀ Variants.none fgt0 written m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_written)
    (hmain := hmain m Variants.none) (hA := A_eq m hO) (hpf := V_pre m) (hΦ := fun _ _ => rfl)

theorem rest_arg0 (hO : Ok m) : main_arg0 ∈ Pipeline.restRefs sig (cfgM m hO).spec \ written :=
  (by unfold written; decide : main_arg0 ∈ Pipeline.restRefs sig spec0 \ written)
theorem rest_arg2 (hO : Ok m) : main_arg2 ∈ Pipeline.restRefs sig (cfgM m hO).spec \ written :=
  (by unfold written; decide : main_arg2 ∈ Pipeline.restRefs sig spec0 \ written)
theorem rest_arg3 (hO : Ok m) : main_arg3 ∈ Pipeline.restRefs sig (cfgM m hO).spec \ written :=
  (by unfold written; decide : main_arg3 ∈ Pipeline.restRefs sig spec0 \ written)
theorem rest_arg6 (hO : Ok m) : main_arg6 ∈ Pipeline.restRefs sig (cfgM m hO).spec \ written :=
  (by unfold written; decide : main_arg6 ∈ Pipeline.restRefs sig spec0 \ written)
theorem rest_arg7 (hO : Ok m) : main_arg7 ∈ Pipeline.restRefs sig (cfgM m hO).spec \ written :=
  (by unfold written; decide : main_arg7 ∈ Pipeline.restRefs sig spec0 \ written)
theorem rest_arg9 (hO : Ok m) : main_arg9 ∈ Pipeline.restRefs sig (cfgM m hO).spec \ written :=
  (by unfold written; decide : main_arg9 ∈ Pipeline.restRefs sig spec0 \ written)

/-- The program runs, its arguments end as launched and every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
     ⟨(((h.1 c).2 main_arg0 (rest_arg0 m hO)).trans (V_main_arg0 m c)),
      (h.1.arr_in c 0 rfl).trans ((A_eq m hO c 0).trans (V_main_arg1 m c)),
      (((h.1 c).2 main_arg2 (rest_arg2 m hO)).trans (V_main_arg2 m c)),
      (((h.1 c).2 main_arg3 (rest_arg3 m hO)).trans (V_main_arg3 m c)),
      (h.1.arr_in c 5 rfl).trans ((A_eq m hO c 5).trans (V_main_arg4 m c)),
      (h.1.arr_in c 6 rfl).trans ((A_eq m hO c 6).trans (V_main_arg5 m c)),
      (((h.1 c).2 main_arg6 (rest_arg6 m hO)).trans (V_main_arg6 m c)),
      (((h.1 c).2 main_arg7 (rest_arg7 m hO)).trans (V_main_arg7 m c)),
      (h.1.arr_in c 7 rfl).trans ((A_eq m hO c 7).trans (V_main_arg8 m c)),
      (((h.1 c).2 main_arg9 (rest_arg9 m hO)).trans (V_main_arg9 m c))⟩, h.2⟩) (run_main m ρ hO)

end Cert.Kernel.Run

end
-- ==== Proof.IdealReady.lean ====
/- The row numbers the preconditions admit lie in the pool, so every block the kernel fetches lies inside its array. -/
module

public import proofs.«01_k».proof.Proof.IdealKit
public import proofs.«01_k».proof.Pre_in_pool
public import Idealize.ShloMosaic.Lib.ReduceAll

@[expose] public section

noncomputable section

namespace Cert.KernelIdeal.Run

open Idealize.ShloMosaic Idealize.ShloMosaic.TcCoe Idealize.SL.Sem
open Cert.KernelIdeal.Gen

variable {F : FTy → Type} [FloatOps F]
variable (m : (ℓ : Loc nD τ sig) → Buf (Elt F) ℓ)

/-- Every row number names a row of the pool. -/
def InPool : Prop := ∀ x : S40.Idx, ((m (((0 : Dev nD) : Thread nD τ).loc main_arg9) : IVec S40 32) x).toNat < 53

theorem word_lt (w : BitVec 32) (h : IntOp.andi (IntOp.cmpi .sge w 0#32) (IntOp.cmpi .slt w 53#32) = 1#1) : w.toNat < 53 := by
  obtain ⟨h1, h2⟩ := IntOp.andi_eq_one.1 h
  have h1 := IntOp.cmpi_sge.1 h1
  have h2 := IntOp.cmpi_slt.1 h2
  simp only [BitVec.toInt_eq_toNat_cond, BitVec.toNat_ofNat] at h1 h2
  split at h2 <;> omega

theorem tbl_at (i : grid0.Coords) : ∃ x : S40.Idx, (tbl m).at 0 (Rect.unit (s := S40) ![(Scalar.indexCast (BitVec.ofNat 32 (i 0).val)).toNat] S1.size (k0_off1_inb i)) numel1_S1
    = (m (((0 : Dev nD) : Thread nD τ).loc main_arg9) : IVec S40 32) x :=
  ⟨_, congrFun (V_main_arg9 m 0) _⟩

/-- In-pool row numbers meet the side condition on the table of row numbers. -/
theorem ok_of_inPool (h : InPool m) : Ok m := by
  refine ⟨fun i => ⟨fun a => ?_, .inl rfl⟩, fun i => ⟨fun a => ?_, .inr (Affine.block_words_dvd (of_decide_eq_true rfl) (by decide))⟩⟩
  all_goals
    obtain ⟨x, hx⟩ := tbl_at m i
    have hlt := h x
    rw [← hx] at hlt
  · match a with
    | ⟨0, _⟩ => exact (by omega : ∀ n : ℕ, n < 53 → (n + 1) * 1 ≤ 53) _ hlt
    | ⟨1, _⟩ => exact (by decide : (0 + 1) * 112 ≤ 112)
    | ⟨2, _⟩ => exact (by decide : (0 + 1) * 128 ≤ 128)
  · match a with
    | ⟨0, _⟩ => exact (by omega : ∀ n : ℕ, n < 53 → (n + 1) * 1 ≤ 53) _ hlt
    | ⟨1, _⟩ => exact (by decide : (0 + 1) * 112 ≤ 112)
    | ⟨2, _⟩ => exact (by decide : (0 + 1) * 64 ≤ 64)
    | ⟨3, _⟩ => exact (by decide : (0 + 1) * 128 ≤ 128)

theorem inPool_of_in_pool [Pre_in_pool.Facts] (h : ∀ c : Dev nD, Pre_in_pool.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = (fun _ => 1#1)) :
    InPool m := fun x =>
  word_lt _ (Host.reduce_andi_all _ _ _ _ (Shape.Idx.first Pre_in_pool.Facts.h_S_) (congrFun (h 0) _) x)

end Cert.KernelIdeal.Run

end
-- ==== Proof.BitsReady.lean ====
/- The row numbers the preconditions admit lie in the pool, so every block the kernel fetches lies inside its array. -/
module

public import proofs.«01_k».proof.Proof.BitsKit
public import proofs.«01_k».proof.Pre_in_pool
public import Idealize.ShloMosaic.Lib.ReduceAll

@[expose] public section

noncomputable section

namespace Cert.Kernel.Run

open Idealize.ShloMosaic Idealize.ShloMosaic.TcCoe Idealize.SL.Sem
open Cert.Kernel.Gen

variable {F : FTy → Type} [FloatOps F]
variable (m : (ℓ : Loc nD τ sig) → Buf (Elt F) ℓ)

/-- Every row number names a row of the pool. -/
def InPool : Prop := ∀ x : S40.Idx, ((m (((0 : Dev nD) : Thread nD τ).loc main_arg9) : IVec S40 32) x).toNat < 53

theorem word_lt (w : BitVec 32) (h : IntOp.andi (IntOp.cmpi .sge w 0#32) (IntOp.cmpi .slt w 53#32) = 1#1) : w.toNat < 53 := by
  obtain ⟨h1, h2⟩ := IntOp.andi_eq_one.1 h
  have h1 := IntOp.cmpi_sge.1 h1
  have h2 := IntOp.cmpi_slt.1 h2
  simp only [BitVec.toInt_eq_toNat_cond, BitVec.toNat_ofNat] at h1 h2
  split at h2 <;> omega

theorem tbl_at (i : grid0.Coords) : ∃ x : S40.Idx, (tbl m).at 0 (Rect.unit (s := S40) ![(Scalar.indexCast (BitVec.ofNat 32 (i 0).val)).toNat] S1.size (k0_off1_inb i)) numel1_S1
    = (m (((0 : Dev nD) : Thread nD τ).loc main_arg9) : IVec S40 32) x :=
  ⟨_, congrFun (V_main_arg9 m 0) _⟩

/-- In-pool row numbers meet the side condition on the table of row numbers. -/
theorem ok_of_inPool (h : InPool m) : Ok m := by
  refine ⟨fun i => ⟨fun a => ?_, .inl rfl⟩, fun i => ⟨fun a => ?_, .inr (Affine.block_words_dvd (of_decide_eq_true rfl) (by decide))⟩⟩
  all_goals
    obtain ⟨x, hx⟩ := tbl_at m i
    have hlt := h x
    rw [← hx] at hlt
  · match a with
    | ⟨0, _⟩ => exact (by omega : ∀ n : ℕ, n < 53 → (n + 1) * 1 ≤ 53) _ hlt
    | ⟨1, _⟩ => exact (by decide : (0 + 1) * 112 ≤ 112)
    | ⟨2, _⟩ => exact (by decide : (0 + 1) * 128 ≤ 128)
  · match a with
    | ⟨0, _⟩ => exact (by omega : ∀ n : ℕ, n < 53 → (n + 1) * 1 ≤ 53) _ hlt
    | ⟨1, _⟩ => exact (by decide : (0 + 1) * 112 ≤ 112)
    | ⟨2, _⟩ => exact (by decide : (0 + 1) * 64 ≤ 64)
    | ⟨3, _⟩ => exact (by decide : (0 + 1) * 128 ≤ 128)

theorem inPool_of_in_pool [Pre_in_pool.Facts] (h : ∀ c : Dev nD, Pre_in_pool.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = (fun _ => 1#1)) :
    InPool m := fun x =>
  word_lt _ (Host.reduce_andi_all _ _ _ _ (Shape.Idx.first Pre_in_pool.Facts.h_S_) (congrFun (h 0) _) x)

end Cert.Kernel.Run

end
-- ==== Proof.FiniteFacts.lean ====
/- The side conditions the precondition's function states, each decided. -/
module

public import proofs.«01_k».proof.Pre_finite
public import Idealize.ShloMosaic.Lib.Affine
public import Idealize.ShloMosaic.Lib.Decide
public import Idealize.ShloMosaic.Lib.Exec

@[expose] public section

namespace Cert.Pre_finite

open Idealize.ShloMosaic Idealize.SL.Sem

/-- The function's facts, proved. -/
instance facts : Cert.Pre_finite.Facts where
  bcast_S_S40 := by decide
  reducesTo_S40_S_d0 := by decide
  h_S_ := by decide
  bitsLt_bf16_f32 := by decide
  bcast_S_S40x112x64 := by decide
  reducesTo_S40x112x64_S_d0_1_2 := by decide
  bcast_S_S40x112 := by decide
  reducesTo_S40x112_S_d0_1 := by decide
  bcast_S_S112 := by decide
  reducesTo_S112_S_d0 := by decide
  bcast_S_S40x2x128 := by decide
  reducesTo_S40x2x128_S_d0_1_2 := by decide

end Cert.Pre_finite
-- ==== Proof.ValQuant.lean ====
/- The power-of-two scale: the kernel's binary search for the exponent field finds the exponent that the reference takes from a logarithm, and both make the same scale and the same inverse of it. -/
module

public import proofs.«01_k».proof.Proof.IdealKit
public import Idealize.ShloMosaic.Lib.Pointwise

@[expose] public section

set_option maxRecDepth 16384

noncomputable section

namespace Cert.KernelIdeal.Run

open Idealize.ShloMosaic Idealize.ShloMosaic.TcCoe
open Cert.KernelIdeal.Gen

/-- The number whose exponent field is `n` and whose other bits are zero. -/
def fieldVal (n : ℕ) : EReal := Ideal.ofBits .f32 (BitVec.ofNat 32 n <<< 23)

theorem fieldVal_mid (n : ℕ) (h1 : 1 ≤ n) (h2 : n ≤ 254) : fieldVal n = (((2 : ℝ) ^ ((n : ℤ) - 127) : ℝ) : EReal) := by
  have hw : (BitVec.extractLsb' 23 8 (BitVec.ofNat 32 n <<< 23)).toNat = n ∧ (BitVec.extractLsb' 0 23 (BitVec.ofNat 32 n <<< 23)).toNat = 0 ∧ (BitVec.extractLsb' (8 + 23) 1 (BitVec.ofNat 32 n <<< 23) == 1#1) = false := by
    have : ∀ k : Fin 255, (BitVec.extractLsb' 23 8 (BitVec.ofNat 32 k.val <<< 23)).toNat = k.val ∧ (BitVec.extractLsb' 0 23 (BitVec.ofNat 32 k.val <<< 23)).toNat = 0 ∧ (BitVec.extractLsb' (8 + 23) 1 (BitVec.ofNat 32 k.val <<< 23) == 1#1) = false := by decide +kernel
    exact this ⟨n, by omega⟩
  obtain ⟨ha, hb, hc⟩ := hw
  show Ideal.ieee 8 23 _ = _
  simp only [Ideal.ieee, ha, hb, hc]
  rw [if_neg (by omega), if_neg (by omega), if_neg (by simp)]
  refine congrArg _ ?_
  rw [Nat.cast_add, Nat.cast_pow, Nat.cast_zero, add_zero, one_mul, Nat.cast_ofNat, ← zpow_natCast, ← zpow_add₀ (by norm_num)]
  refine congrArg _ ?_
  norm_num

theorem fieldVal_zero : fieldVal 0 = 0 := by
  show Ideal.ieee 8 23 (BitVec.ofNat 32 0 <<< 23) = _
  have hw : (BitVec.extractLsb' 23 8 (BitVec.ofNat 32 0 <<< 23)).toNat = 0 ∧ (BitVec.extractLsb' 0 23 (BitVec.ofNat 32 0 <<< 23)).toNat = 0 := by decide +kernel
  simp only [Ideal.ieee, hw.1, hw.2]
  norm_num

theorem fieldVal_top : fieldVal 255 = ⊤ := by
  show Ideal.ieee 8 23 (BitVec.ofNat 32 255 <<< 23) = _
  have hw : (BitVec.extractLsb' 23 8 (BitVec.ofNat 32 255 <<< 23)).toNat = 255 ∧ (BitVec.extractLsb' 0 23 (BitVec.ofNat 32 255 <<< 23)).toNat = 0 ∧ (BitVec.extractLsb' (8 + 23) 1 (BitVec.ofNat 32 255 <<< 23) == 1#1) = false := by decide +kernel
  simp only [Ideal.ieee, hw.1, hw.2.1, hw.2.2]
  norm_num

theorem fieldVal_mono (a b : ℕ) (h : a ≤ b) (hb : b ≤ 255) : fieldVal a ≤ fieldVal b := by
  rcases Nat.eq_zero_or_pos a with rfl | ha
  · rw [fieldVal_zero]
    rcases Nat.eq_zero_or_pos b with rfl | hb0
    · rw [fieldVal_zero]
    · rcases Nat.lt_or_ge b 255 with h2 | h2
      · rw [fieldVal_mid b hb0 (by omega)]; exact_mod_cast (by positivity : (0 : ℝ) ≤ (2 : ℝ) ^ ((b : ℤ) - 127))
      · obtain rfl : b = 255 := by omega
        rw [fieldVal_top]; exact le_top
  · rcases Nat.lt_or_ge b 255 with h2 | h2
    · rw [fieldVal_mid b (by omega) (by omega), fieldVal_mid a ha (by omega)]
      exact_mod_cast zpow_le_zpow_right₀ (by norm_num : (1 : ℝ) ≤ 2) (by omega : (a : ℤ) - 127 ≤ (b : ℤ) - 127)
    · obtain rfl : b = 255 := by omega
      rw [fieldVal_top]; exact le_top

/-- The exponent field of `t`: the greatest whose number is at most `t`. -/
def field (t : EReal) : ℕ := Nat.findGreatest (fun k => fieldVal k ≤ t) 255

theorem field_le (t : EReal) : field t ≤ 255 := Nat.findGreatest_le _

theorem le_iff_field (t : EReal) (ht : 0 ≤ t) (k : ℕ) (hk : k ≤ 255) : fieldVal k ≤ t ↔ k ≤ field t := by
  constructor
  · intro h; exact Nat.le_findGreatest hk h
  · intro h
    refine (fieldVal_mono k (field t) h (field_le t)).trans ?_
    exact Nat.findGreatest_spec (P := fun k => fieldVal k ≤ t) (m := 0) (Nat.zero_le _) (by rw [fieldVal_zero]; exact ht)

/-- One step of the kernel's search. -/
def step (t : EReal) (s f : BitVec 32) : BitVec 32 :=
  if Ideal.ofBits .f32 (IntOp.shli .vector (IntOp.addi f s) 23#32) ≤ t then IntOp.addi f s else f

/-- The kernel's search. -/
def search (t : EReal) : BitVec 32 :=
  step t 1#32 (step t 2#32 (step t 4#32 (step t 8#32 (step t 16#32 (step t 32#32 (step t 64#32 (step t 128#32 0#32)))))))

theorem step_ofNat (t : EReal) (ht : 0 ≤ t) (s n : ℕ) (h : n + s ≤ 255) :
    step t (BitVec.ofNat 32 s) (BitVec.ofNat 32 n) = BitVec.ofNat 32 (if n + s ≤ field t then n + s else n) := by
  have h1 : IntOp.addi (BitVec.ofNat 32 n) (BitVec.ofNat 32 s) = BitVec.ofNat 32 (n + s) := by
    show BitVec.ofNat 32 n + BitVec.ofNat 32 s = _
    rw [← BitVec.ofNat_add]
  have h2 : IntOp.shli .vector (BitVec.ofNat 32 (n + s)) 23#32 = BitVec.ofNat 32 (n + s) <<< 23 := by
    rfl
  unfold step
  rw [h1, h2]
  have := le_iff_field t ht (n + s) h
  unfold fieldVal at this
  by_cases hc : n + s ≤ field t
  · rw [if_pos hc, if_pos (this.2 hc)]
  · rw [if_neg hc, if_neg (fun h => hc (this.1 h))]

theorem search_eq (t : EReal) (ht : 0 ≤ t) : search t = BitVec.ofNat 32 (field t) := by
  have key : ∀ m : Fin 256,
      let st := fun s n : ℕ => if n + s ≤ m.val then n + s else n
      st 1 (st 2 (st 4 (st 8 (st 16 (st 32 (st 64 (st 128 0))))))) = m.val := by decide +kernel
  have hk := key ⟨field t, by have := field_le t; omega⟩
  unfold search
  have e : ∀ s n : ℕ, n + s ≤ 255 → step t (BitVec.ofNat 32 s) (BitVec.ofNat 32 n) = BitVec.ofNat 32 (if n + s ≤ field t then n + s else n) := step_ofNat t ht
  have b : ∀ s n B : ℕ, n ≤ B → (if n + s ≤ field t then n + s else n) ≤ B + s := by intro s n B h; split <;> omega
  have b0 : (if 0 + 128 ≤ field t then 0 + 128 else 0) ≤ 128 := b 128 0 0 le_rfl
  rw [show (128#32 : BitVec 32) = BitVec.ofNat 32 128 from rfl, show (0#32 : BitVec 32) = BitVec.ofNat 32 0 from rfl, e 128 0 (by omega)]
  have b1 := b 64 _ 128 b0
  rw [show (64#32 : BitVec 32) = BitVec.ofNat 32 64 from rfl, e 64 _ (by omega)]
  have b2 := b 32 _ _ b1
  rw [show (32#32 : BitVec 32) = BitVec.ofNat 32 32 from rfl, e 32 _ (by omega)]
  have b3 := b 16 _ _ b2
  rw [show (16#32 : BitVec 32) = BitVec.ofNat 32 16 from rfl, e 16 _ (by omega)]
  have b4 := b 8 _ _ b3
  rw [show (8#32 : BitVec 32) = BitVec.ofNat 32 8 from rfl, e 8 _ (by omega)]
  have b5 := b 4 _ _ b4
  rw [show (4#32 : BitVec 32) = BitVec.ofNat 32 4 from rfl, e 4 _ (by omega)]
  have b6 := b 2 _ _ b5
  rw [show (2#32 : BitVec 32) = BitVec.ofNat 32 2 from rfl, e 2 _ (by omega)]
  have b7 := b 1 _ _ b6
  rw [show (1#32 : BitVec 32) = BitVec.ofNat 32 1 from rfl, e 1 _ (by omega)]
  exact congrArg _ hk

/-- The exponent the kernel scales by. -/
def kexp (f : BitVec 32) : BitVec 32 := Scalar.select (IntOp.ori (IntOp.cmpi .eq f 0#32) (IntOp.cmpi .eq f 255#32)) 0#32 (IntOp.subi f 126#32)
/-- The kernel's scale. -/
def kscale (t : EReal) : EReal := Ideal.ofBits .f32 (IntOp.shli .vector (IntOp.addi 127#32 (kexp (search t))) 23#32)
/-- The kernel's inverse scale. -/
def kinv (t : EReal) : EReal := Ideal.ofBits .f32 (IntOp.shli .vector (IntOp.subi 127#32 (kexp (search t))) 23#32)

/-- The reference's exponent. -/
def rexp (t : EReal) : EReal :=
  if Ideal.ofBits .f32 0x00800000#32 ≤ t ∧ t < Ideal.ofBits .f32 0x7F000000#32 then
    Ideal.liftRound Int.floor (Ideal.div (Ideal.log t) (Ideal.log (Ideal.ofBits .f32 0x40000000#32))) + 1 else 0
/-- The reference's scale. -/
def rscale (t : EReal) : EReal :=
  if Ideal.ofBits .f32 0x7F000000#32 ≤ t ∧ t < Ideal.ofBits .f32 0x7F800000#32 then Ideal.ofBits .f32 0x7F800000#32 else Ideal.exp2 (rexp t)
/-- The reference's inverse scale. -/
def rinv (t : EReal) : EReal :=
  if Ideal.ofBits .f32 0x7F000000#32 ≤ t ∧ t < Ideal.ofBits .f32 0x7F800000#32 then Ideal.ofBits .f32 0xFF800000#32 else
    if Ideal.ofBits .f32 0x7E800000#32 ≤ t ∧ t < Ideal.ofBits .f32 0x7F000000#32 then 0 else Ideal.exp2 (0 - rexp t)

theorem word_scale : ∀ m : Fin 256, IntOp.shli .vector (IntOp.addi 127#32 (kexp (BitVec.ofNat 32 m.val))) 23#32
    = BitVec.ofNat 32 (if m.val = 0 ∨ m.val = 255 then 127 else m.val + 1) <<< 23 := by decide +kernel
theorem word_inv : ∀ m : Fin 256, m.val ≠ 254 → IntOp.shli .vector (IntOp.subi 127#32 (kexp (BitVec.ofNat 32 m.val))) 23#32
    = BitVec.ofNat 32 (if m.val = 0 ∨ m.val = 255 then 127 else 253 - m.val) <<< 23 := by decide +kernel
theorem word_inv_past : IntOp.shli .vector (IntOp.subi 127#32 (kexp (BitVec.ofNat 32 254))) 23#32 = 0xFF800000#32 := by decide +kernel

theorem lt_iff_field (t : EReal) (ht : 0 ≤ t) (k : ℕ) (hk : k ≤ 255) : t < fieldVal k ↔ field t < k := by
  rw [← not_le, le_iff_field t ht k hk, not_le]

theorem rexp_eq (t : EReal) (ht : 0 ≤ t) : rexp t = if 1 ≤ field t ∧ field t < 254 then (((field t : ℝ) - 126 : ℝ) : EReal) else 0 := by
  have c1 : Ideal.ofBits .f32 0x00800000#32 = fieldVal 1 := rfl
  have c2 : Ideal.ofBits .f32 0x7F000000#32 = fieldVal 254 := rfl
  have c3 : Ideal.ofBits .f32 0x40000000#32 = fieldVal 128 := rfl
  unfold rexp
  simp only [c1, c2, c3, le_iff_field t ht 1 (by omega), lt_iff_field t ht 254 (by omega)]
  split
  · rename_i h
    have hlo := (le_iff_field t ht (field t) (field_le t)).2 le_rfl
    have hhi := (lt_iff_field t ht (field t + 1) (by omega)).2 (by omega)
    rw [fieldVal_mid _ h.1 (by omega)] at hlo
    rw [fieldVal_mid _ (by omega) (by omega)] at hhi
    induction t with
    | bot => exact absurd ht (by simp)
    | top => exact absurd hhi (by simp)
    | coe r =>
      have hlo' : (2 : ℝ) ^ ((field r : ℤ) - 127) ≤ r := by exact_mod_cast hlo
      have hhi' : r < (2 : ℝ) ^ (((field r + 1 : ℕ) : ℤ) - 127) := by exact_mod_cast hhi
      have hr : 0 < r := lt_of_lt_of_le (by positivity) hlo'
      rw [fieldVal_mid 128 (by omega) (by omega)]
      have h2 : ((2 : ℝ) ^ (((128 : ℕ) : ℤ) - 127)) = 2 := by norm_num
      rw [h2]
      have l2 : 0 < Real.log 2 := Real.log_pos (by norm_num)
      have e1 : Ideal.log (r : EReal) = ((Real.log r : ℝ) : EReal) := by
        show (if r ≤ 0 then (⊥ : EReal) else _) = _
        rw [if_neg (by linarith)]
      have e2 : Ideal.log ((2 : ℝ) : EReal) = ((Real.log 2 : ℝ) : EReal) := by
        show (if (2 : ℝ) ≤ 0 then (⊥ : EReal) else _) = _
        rw [if_neg (by norm_num)]
      have e3 : Ideal.div ((Real.log r : ℝ) : EReal) ((Real.log 2 : ℝ) : EReal) = ((Real.log r / Real.log 2 : ℝ) : EReal) := by
        unfold Ideal.div
        rw [if_neg (by exact_mod_cast l2.ne'), ← EReal.coe_inv, ← EReal.coe_mul, div_eq_mul_inv]
      rw [e1, e2, e3]
      have hf : ⌊Real.log r / Real.log 2⌋ = (field r : ℤ) - 127 := by
        rw [Int.floor_eq_iff]
        constructor
        · rw [le_div_iff₀ l2]
          have := Real.log_le_log (by positivity) hlo'
          rwa [Real.log_zpow] at this
        · rw [div_lt_iff₀ l2]
          have := Real.log_lt_log hr hhi'
          rw [Real.log_zpow] at this
          push_cast at this ⊢
          linarith
      show (((⌊Real.log r / Real.log 2⌋ : ℤ) : ℝ) : EReal) + 1 = _
      rw [hf]
      rw [show (1 : EReal) = ((1 : ℝ) : EReal) from rfl, ← EReal.coe_add]
      congr 1
      push_cast
      ring
  · rfl

theorem exp2_coe (r : ℝ) : Ideal.exp2 (r : EReal) = (((2 : ℝ) ^ r : ℝ) : EReal) := rfl

theorem exp2_int (k : ℤ) (r : ℝ) (h : r = k) : Ideal.exp2 (r : EReal) = (((2 : ℝ) ^ k : ℝ) : EReal) := by
  rw [exp2_coe, h, Real.rpow_intCast]

theorem kscale_eq (t : EReal) (ht : 0 ≤ t) : kscale t = rscale t := by
  have hle := field_le t
  have e0 : kscale t = fieldVal (if field t = 0 ∨ field t = 255 then 127 else field t + 1) := by
    unfold kscale; rw [search_eq t ht, word_scale ⟨field t, by omega⟩]; rfl
  have c2 : Ideal.ofBits .f32 0x7F000000#32 = fieldVal 254 := rfl
  have c3 : Ideal.ofBits .f32 0x7F800000#32 = fieldVal 255 := rfl
  rw [e0]
  unfold rscale
  simp only [c2, c3, le_iff_field t ht 254 (by omega), lt_iff_field t ht 255 (by omega), rexp_eq t ht]
  by_cases h : field t = 254
  · rw [if_neg (by omega), if_pos (by omega), h]
  · rw [if_neg (by omega : ¬ (254 ≤ field t ∧ field t < 255))]
    by_cases h' : field t = 0 ∨ field t = 255
    · rw [if_pos h', if_neg (by omega), fieldVal_mid _ (by omega) (by omega), show (0 : EReal) = ((0 : ℝ) : EReal) from rfl, exp2_int 0 0 (by norm_num)]
      norm_num
    · rw [if_neg h', if_pos (by omega), fieldVal_mid _ (by omega) (by omega), exp2_int ((field t : ℤ) - 126) _ (by push_cast; ring)]
      congr 2
      push_cast; ring

theorem kinv_eq (t : EReal) (ht : 0 ≤ t) : kinv t = rinv t := by
  have hle := field_le t
  have c2 : Ideal.ofBits .f32 0x7F000000#32 = fieldVal 254 := rfl
  have c3 : Ideal.ofBits .f32 0x7F800000#32 = fieldVal 255 := rfl
  have c4 : Ideal.ofBits .f32 0x7E800000#32 = fieldVal 253 := rfl
  unfold rinv
  simp only [c2, c3, c4, le_iff_field t ht 254 (by omega), lt_iff_field t ht 255 (by omega), le_iff_field t ht 253 (by omega), lt_iff_field t ht 254 (by omega), rexp_eq t ht]
  by_cases h : field t = 254
  · rw [if_pos (by omega)]
    unfold kinv; rw [search_eq t ht, h, word_inv_past]
  · rw [if_neg (by omega : ¬ (254 ≤ field t ∧ field t < 255))]
    have e0 : kinv t = fieldVal (if field t = 0 ∨ field t = 255 then 127 else 253 - field t) := by
      unfold kinv; rw [search_eq t ht, word_inv ⟨field t, by omega⟩ h]; rfl
    rw [e0]
    by_cases h' : field t = 0 ∨ field t = 255
    · rw [if_pos h', if_neg (by omega), if_neg (by omega), fieldVal_mid _ (by omega) (by omega), show (0 : EReal) - 0 = ((0 : ℝ) : EReal) from by simp, exp2_int 0 0 (by norm_num)]
      norm_num
    · rw [if_neg h']
      by_cases h3 : field t = 253
      · rw [if_pos (by omega), h3, Nat.sub_self, fieldVal_zero]
      · rw [if_neg (by omega), if_pos (by omega), fieldVal_mid _ (by omega) (by omega), show (0 : EReal) = ((0 : ℝ) : EReal) from rfl, ← EReal.coe_sub, exp2_int (126 - (field t : ℤ)) _ (by push_cast; ring)]
        congr 2
        omega

end Cert.KernelIdeal.Run
-- ==== Proof.ValTile.lean ====
/- What the pieces of one trip of the head loops hold, element by element, over the extended reals: the new state of a head, the largest magnitude of each of its columns, and the clipped codes. -/
module

public import proofs.«01_k».proof.Proof.IdealKit
public import Idealize.ShloMosaic.Lib.Pointwise
public import proofs.«01_k».proof.Proof.ValQuant

@[expose] public section

set_option maxRecDepth 16384

noncomputable section

namespace Cert.KernelIdeal.Run

open Idealize.ShloMosaic Idealize.ShloMosaic.TcCoe
open Cert.KernelIdeal.Gen

/-- The new state of head `i` of a block of eight: its codes times the scaled decay, plus its input times the input projection. -/
def headV (b : FVec Ideal S1x128 .f32) (ds : FVec Ideal S8x128 .f32) (dxb : FVec Ideal S64x128 .f32) (cb : Vec Ideal S1x1x64x128 .fp8e4m3) (i : Fin 8) : FVec Ideal S64x128 .f32 :=
  fun j => cb (ix4 0 0 (j 0) (j 1)) * ds (ix2 i (j 1)) + dxb (ix2 (j 0) ⟨i.val, by omega⟩) * b (ix2 0 (j 1))

section Heads
variable (b : FVec Ideal S1x128 .f32) (ds : FVec Ideal S8x128 .f32) (dxb : FVec Ideal S64x128 .f32) (cb : Vec Ideal S1x1x64x128 .fp8e4m3)

theorem head0 (sc : Vec Ideal S1x8x128 .f32) (de : Vec Ideal S8x1 .f32) (dx : Vec Ideal S1x64x128 .f32) : k0_pay5 b sc de dx cb = headV b (k0_pay3 sc de) (k0_pay4 dx) cb 0 := by
  funext j; idx_vars j; pointwise [k0_pay5, headV]
theorem head1 : k0_pay9 b ds dxb cb = headV b ds dxb cb 1 := by funext j; idx_vars j; pointwise [k0_pay9, headV]
theorem head2 : k0_pay11 b ds dxb cb = headV b ds dxb cb 2 := by funext j; idx_vars j; pointwise [k0_pay11, headV]
theorem head3 : k0_pay13 b ds dxb cb = headV b ds dxb cb 3 := by funext j; idx_vars j; pointwise [k0_pay13, headV]
theorem head4 : k0_pay17 b ds dxb cb = headV b ds dxb cb 4 := by funext j; idx_vars j; pointwise [k0_pay17, headV]
theorem head5 : k0_pay21 b ds dxb cb = headV b ds dxb cb 5 := by funext j; idx_vars j; pointwise [k0_pay21, headV]
theorem head6 : k0_pay23 b ds dxb cb = headV b ds dxb cb 6 := by funext j; idx_vars j; pointwise [k0_pay23, headV]
theorem head7 : k0_pay25 b ds dxb cb = headV b ds dxb cb 7 := by funext j; idx_vars j; pointwise [k0_pay25, headV]
end Heads

/-- The magnitude of element (`p`, `n`). -/
def mag (v : FVec Ideal S64x128 .f32) (p : Fin 64) (n : Fin 128) : EReal := v (ix2 p n) ⊔ -v (ix2 p n)

/-- The largest magnitude over the eight rows `r`, `8 + r`, …, `56 + r`. -/
def partV (v : FVec Ideal S64x128 .f32) : FVec Ideal S8x128 .f32 := fun j =>
  let g : Fin 8 → EReal := fun k => mag v ⟨8 * k.val + (j 0).val, by have := (j 0).isLt; have : (j 0).val < 8 := this; omega⟩ (j 1)
  g 0 ⊔ g 1 ⊔ g 2 ⊔ g 3 ⊔ g 4 ⊔ g 5 ⊔ g 6 ⊔ g 7

section Parts
variable (b : FVec Ideal S1x128 .f32) (ds : FVec Ideal S8x128 .f32) (dxb : FVec Ideal S64x128 .f32) (cb : Vec Ideal S1x1x64x128 .fp8e4m3)
theorem part0 (sc : Vec Ideal S1x8x128 .f32) (de : Vec Ideal S8x1 .f32) (dx : Vec Ideal S1x64x128 .f32) : k0_pay8 (k0_pay6 b sc de dx cb) (k0_pay7 b sc de dx cb) = partV (k0_pay5 b sc de dx cb) := by
  funext j; idx_vars j; pointwise [k0_pay8, k0_pay6, k0_pay7, partV, mag]; rfl
theorem part1 : k0_pay10 b ds dxb cb = partV (k0_pay9 b ds dxb cb) := by funext j; idx_vars j; pointwise [k0_pay10, partV, mag]; rfl
theorem part2 : k0_pay12 b ds dxb cb = partV (k0_pay11 b ds dxb cb) := by funext j; idx_vars j; pointwise [k0_pay12, partV, mag]; rfl
theorem part3 : k0_pay16 (k0_pay13 b ds dxb cb) (k0_pay14 b ds dxb cb) (k0_pay15 b ds dxb cb) = partV (k0_pay13 b ds dxb cb) := by
  funext j; idx_vars j; pointwise [k0_pay14, k0_pay15, k0_pay16, partV, mag]; rfl
theorem part4 : k0_pay20 (k0_pay17 b ds dxb cb) (k0_pay18 b ds dxb cb) (k0_pay19 b ds dxb cb) = partV (k0_pay17 b ds dxb cb) := by
  funext j; idx_vars j; pointwise [k0_pay18, k0_pay19, k0_pay20, partV, mag]; rfl
theorem part5 : k0_pay22 b ds dxb cb = partV (k0_pay21 b ds dxb cb) := by funext j; idx_vars j; pointwise [k0_pay22, partV, mag]; rfl
theorem part6 : k0_pay24 b ds dxb cb = partV (k0_pay23 b ds dxb cb) := by funext j; idx_vars j; pointwise [k0_pay24, partV, mag]; rfl
theorem part7 : k0_pay26 (k0_pay25 b ds dxb cb) = partV (k0_pay25 b ds dxb cb) := by funext j; idx_vars j; pointwise [k0_pay26, partV, mag]; rfl
end Parts

/-- Where the diagonal block of head `i` sits. -/
abbrev onDiag (k i l : ℕ) : Prop := i / 2 = k ∧ l / 64 = i % 2

section Masks
variable (v82 v83 : IVec S8x128 32) (h82 : ∀ (i : Fin 8) (l : Fin 128), v82 (ix2 i l) = BitVec.ofNat 32 l.val) (h83 : ∀ (i : Fin 8) (l : Fin 128), v83 (ix2 i l) = BitVec.ofNat 32 i.val)
  (a s : FVec Ideal S8x128 .f32) (i : Fin 8) (l : Fin 128)
include h82 h83

theorem acc0 : k0_pay50 v82 v83 a s (k0_pay47 v83) 64#32 (k0_pay48 v82) (k0_pay49 v82) 1#32 (ix2 i l) = a (ix2 i l) + if onDiag 0 i.val l.val then s (ix2 i l) else 0 := by
  pointwise [k0_pay50, k0_pay47, k0_pay48, k0_pay49, h82, h83]
  refine congrArg _ (if_congr ?_ rfl rfl)
  revert i l; decide +kernel
theorem acc1 : k0_pay58 a s (k0_pay54 v83 2#32 (k0_pay52 v83) (k0_pay53 v83) 1#32) (k0_pay55 v82) 2#32 (k0_pay56 v83) (k0_pay57 v83) (ix2 i l) = a (ix2 i l) + if onDiag 1 i.val l.val then s (ix2 i l) else 0 := by
  pointwise [k0_pay58, k0_pay54, k0_pay52, k0_pay53, k0_pay55, k0_pay56, k0_pay57, h82, h83]
  refine congrArg _ (if_congr ?_ rfl rfl)
  revert i l; decide +kernel
theorem acc2 : k0_pay63 v82 v83 a s (k0_pay60 v83) 64#32 (k0_pay61 v82) (k0_pay62 v82) (ix2 i l) = a (ix2 i l) + if onDiag 2 i.val l.val then s (ix2 i l) else 0 := by
  pointwise [k0_pay63, k0_pay60, k0_pay61, k0_pay62, h82, h83]
  refine congrArg _ (if_congr ?_ rfl rfl)
  revert i l; decide +kernel
/-- The lane half a row away. -/
def rotL (l : Fin 128) : Fin 128 := ⟨(l.val + 128 - 64) % 128, by omega⟩
theorem acc3 : k0_pay69 v83 a s (k0_pay67 v83 2#32 (k0_pay65 v83) (k0_pay66 v83)) (k0_pay68 v82) 2#32 0#32 (ix2 i l) =
    if i.val % 2 = 1 then a (ix2 i (rotL l)) + (if onDiag 3 i.val (rotL l).val then s (ix2 i (rotL l)) else 0) else a (ix2 i l) + (if onDiag 3 i.val l.val then s (ix2 i l) else 0) := by
  pointwise [k0_pay69, k0_pay67, k0_pay65, k0_pay66, k0_pay68, h82, h83]
  refine if_congr ?_ (congrArg _ (if_congr ?_ rfl rfl)) (congrArg _ (if_congr ?_ rfl rfl))
  · revert i; decide +kernel
  · unfold rotL; revert i l; decide +kernel
  · revert i l; decide +kernel
end Masks

/-- A value clamped to the range of the eight-bit codes. -/
def clampV (x : EReal) : EReal := min (Ideal.ofBits .f32 1138753536#32) (max (Ideal.ofBits .f32 3286237184#32) x)

section Codes
variable (v : FVec Ideal S64x128 .f32) (w : Vec Ideal S1x128 .f32) (p : Fin 64) (n : Fin 128)
theorem codes0 : k0_pay33 v w (ix4 0 0 p n) = clampV (v (ix2 p n) * w (ix2 0 n)) := by pointwise [k0_pay33, clampV]
theorem codes1 : k0_pay34 v w (ix4 0 0 p n) = clampV (v (ix2 p n) * w (ix2 0 n)) := by pointwise [k0_pay34, clampV]
theorem codes2 : k0_pay36 (k0_pay35 v w) (ix4 0 0 p n) = clampV (v (ix2 p n) * w (ix2 0 n)) := by pointwise [k0_pay35, k0_pay36, clampV]
theorem codes3 : k0_pay37 v w (ix4 0 0 p n) = clampV (v (ix2 p n) * w (ix2 0 n)) := by pointwise [k0_pay37, clampV]
theorem codes4 : k0_pay38 v w (ix4 0 0 p n) = clampV (v (ix2 p n) * w (ix2 0 n)) := by pointwise [k0_pay38, clampV]
theorem codes5 : k0_pay40 (k0_pay39 v w) (ix4 0 0 p n) = clampV (v (ix2 p n) * w (ix2 0 n)) := by pointwise [k0_pay39, k0_pay40, clampV]
theorem codes6 : k0_pay41 v w (ix4 0 0 p n) = clampV (v (ix2 p n) * w (ix2 0 n)) := by pointwise [k0_pay41, clampV]
theorem codes7 : k0_pay42 v w (ix4 0 0 p n) = clampV (v (ix2 p n) * w (ix2 0 n)) := by pointwise [k0_pay42, clampV]
end Codes

/-- The constant the largest magnitude is multiplied by. -/
def cq : EReal := Ideal.ofBits .f32 991054117#32

/-- One step of the search, on a whole block. -/
def stepVec (t : FVec Ideal S8x128 .f32) (s : BitVec 32) (f : IVec S8x128 32) : IVec S8x128 32 :=
  select (cmpf .oge t (bitcastToFloat .f32 (shli (addi f (broadcast S8x128 s)) (broadcast S8x128 23#32)))) (addi f (broadcast S8x128 s)) f
theorem stepVec_at (t : FVec Ideal S8x128 .f32) (s : BitVec 32) (f : IVec S8x128 32) (i : Fin 8) (n : Fin 128) : stepVec t s f (ix2 i n) = step (t (ix2 i n)) s (f (ix2 i n)) := by
  pointwise [stepVec, step]

section Scale
variable (a : FVec Ideal S8x128 .f32) (i : Fin 8) (n : Fin 128)
theorem exp_at : k0_pay30 (k0_pay28 a) (k0_pay29 a) 2#32 (ix2 i n) = kexp (search (a (ix2 i n) * cq)) := by
  have h : k0_pay28 a (ix2 i n) = a (ix2 i n) * cq := by pointwise [k0_pay28, cq]
  have e : search (a (ix2 i n) * cq) = stepVec (k0_pay28 a) 1#32 (stepVec (k0_pay28 a) 2#32 (k0_pay29 a)) (ix2 i n) := by
    have e1 : k0_pay29 a = stepVec (k0_pay28 a) 4#32 (stepVec (k0_pay28 a) 8#32 (stepVec (k0_pay28 a) 16#32 (stepVec (k0_pay28 a) 32#32 (stepVec (k0_pay28 a) 64#32 (stepVec (k0_pay28 a) 128#32 (broadcast S8x128 0#32)))))) := rfl
    rw [e1]
    simp only [stepVec_at, h]
    rfl
  rw [e]
  rfl
theorem scale_at : k0_pay31 (k0_pay28 a) (k0_pay29 a) 2#32 (ix3 0 i n) = kscale (a (ix2 i n) * cq) := by
  pointwise [k0_pay31, exp_at]
  rfl
theorem inv_at : k0_pay32 (k0_pay28 a) (k0_pay29 a) 2#32 (ix2 i n) = kinv (a (ix2 i n) * cq) := by
  pointwise [k0_pay32, exp_at]
  rfl
end Scale

/-- The largest magnitude in lane `n`. -/
def amax (v : FVec Ideal S64x128 .f32) (n : Fin 128) : EReal := Finset.univ.sup fun p : Fin 64 => mag v p n

theorem sup8 (g : Fin 8 → EReal) : g 0 ⊔ g 1 ⊔ g 2 ⊔ g 3 ⊔ g 4 ⊔ g 5 ⊔ g 6 ⊔ g 7 = Finset.univ.sup g := by
  apply le_antisymm
  · simp only [sup_le_iff]
    refine ⟨⟨⟨⟨⟨⟨⟨?_, ?_⟩, ?_⟩, ?_⟩, ?_⟩, ?_⟩, ?_⟩, ?_⟩ <;> exact Finset.le_sup (Finset.mem_univ _)
  · refine Finset.sup_le fun i _ => ?_
    fin_cases i <;> simp

theorem partV_at (v : FVec Ideal S64x128 .f32) (r : Fin 8) (n : Fin 128) : partV v (ix2 r n) = Finset.univ.sup fun k : Fin 8 => mag v ⟨8 * k.val + r.val, by omega⟩ n :=
  sup8 fun k : Fin 8 => mag v ⟨8 * k.val + r.val, by omega⟩ n

theorem amax_parts (v : FVec Ideal S64x128 .f32) (n : Fin 128) : (Finset.univ.sup fun r : Fin 8 => partV v (ix2 r n)) = amax v n := by
  simp only [partV_at]
  apply le_antisymm
  · refine Finset.sup_le fun r _ => Finset.sup_le fun k _ => ?_
    exact Finset.le_sup (f := fun p : Fin 64 => mag v p n) (Finset.mem_univ _)
  · refine Finset.sup_le fun p _ => ?_
    refine le_trans ?_ (Finset.le_sup (Finset.mem_univ (⟨p.val % 8, by omega⟩ : Fin 8)))
    refine le_trans (le_of_eq ?_) (Finset.le_sup (Finset.mem_univ (⟨p.val / 8, by omega⟩ : Fin 8)))
    exact congrArg (fun q => mag v q n) (Fin.ext (by simp only; omega))

/-- The eight strided loads joined, read at a head and a lane. -/
theorem amax_at (w0 w1 w2 w3 w4 w5 w6 w7 : Vec Ideal S8x128 .f32) (i : Fin 8) (n : Fin 128) (v : FVec Ideal S64x128 .f32)
    (h0 : w0 (ix2 i n) = partV v (ix2 0 n)) (h1 : w1 (ix2 i n) = partV v (ix2 1 n)) (h2 : w2 (ix2 i n) = partV v (ix2 2 n)) (h3 : w3 (ix2 i n) = partV v (ix2 3 n))
    (h4 : w4 (ix2 i n) = partV v (ix2 4 n)) (h5 : w5 (ix2 i n) = partV v (ix2 5 n)) (h6 : w6 (ix2 i n) = partV v (ix2 6 n)) (h7 : w7 (ix2 i n) = partV v (ix2 7 n)) :
    k0_pay27 w0 w1 w2 w3 w4 w5 w6 w7 (ix2 i n) = amax v n := by
  rw [← amax_parts, ← sup8 fun r => partV v (ix2 r n), ← h0, ← h1, ← h2, ← h3, ← h4, ← h5, ← h6, ← h7]
  pointwise [k0_pay27]

/-- The product of the scaled output projection with the codes of a head, before the decay. -/
theorem dot_at (c : FVec Ideal S1x128 .f32) (s : FVec Ideal S8x128 .f32) (cs : Vec Ideal S1x8x64x128 .fp8e4m3) (i : Fin 8) (l : Fin 512) :
    k0_pay44 (k0_pay43 c s) cs (ix2 ⟨i.val, by omega⟩ l) = ∑ x : Fin 128, s (ix2 i x) * c (ix2 0 x) * cs (ix4 0 ⟨l.val / 64, by omega⟩ ⟨l.val % 64, by omega⟩ x) := by
  pointwise [k0_pay43, k0_pay44]

/-- The diagonal blocks gathered: row `i` of the product, columns `64 i …`. -/
theorem gather_at (v82 v83 : IVec S8x128 32) (h82 : ∀ (i : Fin 8) (l : Fin 128), v82 (ix2 i l) = BitVec.ofNat 32 l.val) (h83 : ∀ (i : Fin 8) (l : Fin 128), v83 (ix2 i l) = BitVec.ofNat 32 i.val)
    (w : FVec Ideal S16x128 .bf16) (cs : Vec Ideal S1x8x64x128 .fp8e4m3) (i : Fin 8) (l : Fin 128) (hl : l.val < 64) :
    k0_pay69 v83
      (k0_pay63 v82 v83
        (k0_pay58
          (k0_pay50 v82 v83 k0_pay45 (k0_pay46 w cs) (k0_pay47 v83) 64#32 (k0_pay48 v82) (k0_pay49 v82) 1#32)
          (k0_pay51 (k0_pay44 w cs)) (k0_pay54 v83 2#32 (k0_pay52 v83) (k0_pay53 v83) 1#32) (k0_pay55 v82) 2#32 (k0_pay56 v83) (k0_pay57 v83))
        (k0_pay59 (k0_pay44 w cs)) (k0_pay60 v83) 64#32 (k0_pay61 v82) (k0_pay62 v82))
      (k0_pay64 (k0_pay44 w cs)) (k0_pay67 v83 2#32 (k0_pay65 v83) (k0_pay66 v83)) (k0_pay68 v82) 2#32 0#32 (ix2 i l)
    = k0_pay44 w cs (ix2 ⟨i.val, by omega⟩ ⟨64 * i.val + l.val, by omega⟩) := by
  have z : ∀ l : Fin 128, (k0_pay45 (F := Ideal)) (ix2 i l) = 0 := by intro l; pointwise [k0_pay45]
  have s0 : ∀ l : Fin 128, k0_pay46 w cs (ix2 i l) = k0_pay44 w cs (ix2 ⟨i.val, by omega⟩ ⟨l.val, by omega⟩) := by intro l; pointwise [k0_pay46]
  have s1 : ∀ l : Fin 128, k0_pay51 (k0_pay44 w cs) (ix2 i l) = k0_pay44 w cs (ix2 ⟨i.val, by omega⟩ ⟨128 + l.val, by omega⟩) := by intro l; pointwise [k0_pay51]
  have s2 : ∀ l : Fin 128, k0_pay59 (k0_pay44 w cs) (ix2 i l) = k0_pay44 w cs (ix2 ⟨i.val, by omega⟩ ⟨256 + l.val, by omega⟩) := by intro l; pointwise [k0_pay59]
  have s3 : ∀ l : Fin 128, k0_pay64 (k0_pay44 w cs) (ix2 i l) = k0_pay44 w cs (ix2 ⟨i.val, by omega⟩ ⟨384 + l.val, by omega⟩) := by intro l; pointwise [k0_pay64]
  generalize k0_pay44 w cs = d at *
  rw [acc3 v82 v83 h82 h83]
  simp only [acc2 v82 v83 h82 h83, acc1 v82 v83 h82 h83, acc0 v82 v83 h82 h83, z, s0, s1, s2, s3, onDiag]
  have hr : (rotL l).val = l.val + 64 := by unfold rotL; simp only; omega
  simp only [hr]
  have e1 : l.val / 64 = 0 := by omega
  have e2 : (l.val + 64) / 64 = 1 := by omega
  simp only [e1, e2]
  have key : ∀ (x y : Fin 512), x.val = y.val → d (ix2 ⟨i.val, by omega⟩ x) = d (ix2 ⟨i.val, by omega⟩ y) := by intro x y h; rw [Fin.ext h]
  fin_cases i <;> simp <;> exact key _ _ (by simp only; omega)

end Cert.KernelIdeal.Run
-- ==== Proof.ValBlock.lean ====
/- One trip of the kernel's head loop: the new state of eight heads, its scale, its codes and the products with the output projection, as functions of the blocks the trip loads. -/
module

public import proofs.«01_k».proof.Proof.ValTile
public import Idealize.ShloMosaic.Lib.Pipeline.ValueKit.Tiles

@[expose] public section

set_option maxRecDepth 16384

noncomputable section

namespace Cert.KernelIdeal.Run

open Idealize.ShloMosaic Idealize.ShloMosaic.TcCoe
open Cert.KernelIdeal.Gen

/-- The group a head belongs to. -/
def grp (h : Fin 112) : Fin 2 := ⟨h.val / 56, by omega⟩

section Spec
variable (x5 x6 : Vec Ideal S1x2x128 .bf16) (x7 : Vec Ideal S1x112x128 .f32) (x8 : Vec Ideal S1x112x64x128 .fp8e4m3) (dec : Fin 112 → EReal) (dxf : Fin 64 → Fin 112 → EReal)

/-- The new state: codes times the scaled decay, plus the scaled input times the input projection. -/
def hNew (h : Fin 112) (p : Fin 64) (n : Fin 128) : EReal := x8 (ix4 0 h p n) * (x7 (ix3 0 h n) * dec h) + dxf p h * x5 (ix3 0 (grp h) n)
/-- The largest magnitude of the new state over its rows, times the constant. -/
def tq (h : Fin 112) (n : Fin 128) : EReal := (Finset.univ.sup fun p : Fin 64 => hNew x5 x7 x8 dec dxf h p n ⊔ -hNew x5 x7 x8 dec dxf h p n) * cq
/-- The new codes. -/
def codesV (h : Fin 112) (p : Fin 64) (n : Fin 128) : EReal := clampV (hNew x5 x7 x8 dec dxf h p n * kinv (tq x5 x7 x8 dec dxf h n))
/-- The new scale. -/
def scaleV (h : Fin 112) (n : Fin 128) : EReal := kscale (tq x5 x7 x8 dec dxf h n)
/-- The old state times the output projection, before the decay. -/
def yRow (h : Fin 112) (p : Fin 64) : EReal := ∑ n : Fin 128, x7 (ix3 0 h n) * x6 (ix3 0 (grp h) n) * x8 (ix4 0 h p n)

/-- Head `i` of block `q`. -/
def hd (q : Fin 14) (i : Fin 8) : Fin 112 := ⟨8 * q.val + i.val, by omega⟩

/-- What the loads of block `q` are of the whole arrays. -/
structure Loads (q : Fin 14) (b : FVec Ideal S1x128 .f32) (sc : Vec Ideal S1x8x128 .f32) (de : Vec Ideal S8x1 .f32) (dx : Vec Ideal S1x64x128 .f32) (cb : Fin 8 → Vec Ideal S1x1x64x128 .fp8e4m3) : Prop where
  hb : ∀ (i : Fin 8) n, b (ix2 0 n) = x5 (ix3 0 (grp (hd q i)) n)
  hsc : ∀ (i : Fin 8) n, sc (ix3 0 i n) = x7 (ix3 0 (hd q i) n)
  hde : ∀ (i : Fin 8), de (ix2 i 0) = dec (hd q i)
  hdx : ∀ p (i : Fin 8), dx (ix3 0 p ⟨i.val, by omega⟩) = dxf p (hd q i)
  hcb : ∀ (i : Fin 8) p n, cb i (ix4 0 0 p n) = x8 (ix4 0 (hd q i) p n)
end Spec

section Lists
variable (b : FVec Ideal S1x128 .f32) (sc : Vec Ideal S1x8x128 .f32) (de : Vec Ideal S8x1 .f32) (dx : Vec Ideal S1x64x128 .f32) (cb : Fin 8 → Vec Ideal S1x1x64x128 .fp8e4m3)
  (m18 : Memref sig .tc .vmem S64x128 .f32) (m19 : Memref sig .tc .vmem S8x128 .f32)

/-- The partial maxima of the eight heads, as the trip stores them. -/
abbrev L18 : List (View.Piece (Elt Ideal) S64x128 .f32) :=
  [⟨Rect.unit ![56, 0] S8x128.size inb_S64x128_S8x128_56_0, k0_pay26 (k0_pay25 b (k0_pay3 sc de) (k0_pay4 dx) (cb 7))⟩,
    ⟨Rect.unit ![48, 0] S8x128.size inb_S64x128_S8x128_48_0, k0_pay24 b (k0_pay3 sc de) (k0_pay4 dx) (cb 6)⟩,
    ⟨Rect.unit ![40, 0] S8x128.size inb_S64x128_S8x128_40_0, k0_pay22 b (k0_pay3 sc de) (k0_pay4 dx) (cb 5)⟩,
    ⟨Rect.unit ![32, 0] S8x128.size inb_S64x128_S8x128_32_0, k0_pay20 (k0_pay17 b (k0_pay3 sc de) (k0_pay4 dx) (cb 4)) (k0_pay18 b (k0_pay3 sc de) (k0_pay4 dx) (cb 4)) (k0_pay19 b (k0_pay3 sc de) (k0_pay4 dx) (cb 4))⟩,
    ⟨Rect.unit ![24, 0] S8x128.size inb_S64x128_S8x128_24_0, k0_pay16 (k0_pay13 b (k0_pay3 sc de) (k0_pay4 dx) (cb 3)) (k0_pay14 b (k0_pay3 sc de) (k0_pay4 dx) (cb 3)) (k0_pay15 b (k0_pay3 sc de) (k0_pay4 dx) (cb 3))⟩,
    ⟨Rect.unit ![16, 0] S8x128.size inb_S64x128_S8x128_16_0, k0_pay12 b (k0_pay3 sc de) (k0_pay4 dx) (cb 2)⟩,
    ⟨Rect.unit ![8, 0] S8x128.size inb_S64x128_S8x128_8_0, k0_pay10 b (k0_pay3 sc de) (k0_pay4 dx) (cb 1)⟩,
    ⟨Rect.unit ![0, 0] S8x128.size inb_S64x128_S8x128_0_0, k0_pay8 (k0_pay6 b sc de dx (cb 0)) (k0_pay7 b sc de dx (cb 0))⟩]

/-- Their maxima, from the eight strided loads. -/
abbrev A27 : FVec Ideal S8x128 .f32 :=
  k0_pay27 (m18.view.readCov (L18 b sc de dx cb) ⟨![0, 0], S8x128.size, ![8, 1], inb_S64x128_S8x128_0_0_s_8_1⟩) (m18.view.readCov (L18 b sc de dx cb) ⟨![1, 0], S8x128.size, ![8, 1], inb_S64x128_S8x128_1_0_s_8_1⟩) (m18.view.readCov (L18 b sc de dx cb) ⟨![2, 0], S8x128.size, ![8, 1], inb_S64x128_S8x128_2_0_s_8_1⟩) (m18.view.readCov (L18 b sc de dx cb) ⟨![3, 0], S8x128.size, ![8, 1], inb_S64x128_S8x128_3_0_s_8_1⟩) (m18.view.readCov (L18 b sc de dx cb) ⟨![4, 0], S8x128.size, ![8, 1], inb_S64x128_S8x128_4_0_s_8_1⟩) (m18.view.readCov (L18 b sc de dx cb) ⟨![5, 0], S8x128.size, ![8, 1], inb_S64x128_S8x128_5_0_s_8_1⟩) (m18.view.readCov (L18 b sc de dx cb) ⟨![6, 0], S8x128.size, ![8, 1], inb_S64x128_S8x128_6_0_s_8_1⟩) (m18.view.readCov (L18 b sc de dx cb) ⟨![7, 0], S8x128.size, ![8, 1], inb_S64x128_S8x128_7_0_s_8_1⟩)

/-- The inverse scales of the eight heads, as the trip stores them. -/
abbrev L19 : List (View.Piece (Elt Ideal) S8x128 .f32) :=
  [⟨Rect.unit ![0, 0] S8x128.size inb_S8x128_S8x128_0_0, k0_pay32 (k0_pay28 (A27 b sc de dx cb m18)) (k0_pay29 (A27 b sc de dx cb m18)) 2#32⟩]
end Lists

/-- A strided load of rows stored eight at a time. -/
theorem strided_at (m18 : Memref sig .tc .vmem S64x128 .f32) (w0 w1 w2 w3 w4 w5 w6 w7 : Vec Ideal S8x128 .f32) (j : Fin 8)
    (inb : ∀ a, S8x128.size a = 0 ∨ (![j.val, 0] : Fin 2 → ℕ) a + (![8, 1] : Fin 2 → ℕ) a * (S8x128.size a - 1) < S64x128.size a) (i : Fin 8) (n : Fin 128) :
    m18.view.readCov [⟨Rect.unit ![56, 0] S8x128.size inb_S64x128_S8x128_56_0, w7⟩, ⟨Rect.unit ![48, 0] S8x128.size inb_S64x128_S8x128_48_0, w6⟩, ⟨Rect.unit ![40, 0] S8x128.size inb_S64x128_S8x128_40_0, w5⟩, ⟨Rect.unit ![32, 0] S8x128.size inb_S64x128_S8x128_32_0, w4⟩, ⟨Rect.unit ![24, 0] S8x128.size inb_S64x128_S8x128_24_0, w3⟩, ⟨Rect.unit ![16, 0] S8x128.size inb_S64x128_S8x128_16_0, w2⟩, ⟨Rect.unit ![8, 0] S8x128.size inb_S64x128_S8x128_8_0, w1⟩, ⟨Rect.unit ![0, 0] S8x128.size inb_S64x128_S8x128_0_0, w0⟩] ⟨![j.val, 0], S8x128.size, ![8, 1], inb⟩ (ix2 i n)
      = (![w0, w1, w2, w3, w4, w5, w6, w7] : Fin 8 → Vec Ideal S8x128 .f32) i (ix2 j n) := by
  have key : ∀ (k : Fin 8) (w : Vec Ideal S8x128 .f32) (y : S64x128.Idx), (y 0).val = j.val + 8 * i.val → (y 1).val = n.val → (![w0, w1, w2, w3, w4, w5, w6, w7] : Fin 8 → Vec Ideal S8x128 .f32) k = w →
      View.TileAt (Val := Elt Ideal) (S := S64x128) (e := .f32) y ![8 * k.val, 0] S8x128.size w ((![w0, w1, w2, w3, w4, w5, w6, w7] : Fin 8 → Vec Ideal S8x128 .f32) i (ix2 j n)) := by
    rintro k w y h0 h1 rfl x hx
    have a0 : (y 0).val = 8 * k.val + (x 0).val := hx 0
    have a1 : (y 1).val = 0 + (x 1).val := hx 1
    have hx0 : (x 0).val < 8 := (x 0).isLt
    have hk : k = i := Fin.ext (by omega)
    subst hk
    have e : x = ix2 j n := by
      funext a; fin_cases a
      · exact Fin.ext (by show (x 0).val = j.val; omega)
      · exact Fin.ext (by show (x 1).val = n.val; omega)
    rw [e]
  rw [View.readCov_eq_canon']
  dsimp only
  generalize hy : (LoadRect.idx (s := S64x128) ⟨![j.val, 0], S8x128.size, ![8, 1], inb⟩ (ix2 i n)) = y
  have h0 : (y 0).val = j.val + 8 * i.val := by rw [← hy]; rfl
  have h1 : (y 1).val = n.val := by rw [← hy]; show 0 + 1 * n.val = n.val; omega
  refine View.canon_eq_of_allAt _ _ _ ?_ ?_
  · exact View.cover_of_tiled_head _ _ _ rfl y
  · refine View.allAt_cons_unit _ _ _ _ _ (key 7 w7 y h0 h1 rfl) ?_
    refine View.allAt_cons_unit _ _ _ _ _ (key 6 w6 y h0 h1 rfl) ?_
    refine View.allAt_cons_unit _ _ _ _ _ (key 5 w5 y h0 h1 rfl) ?_
    refine View.allAt_cons_unit _ _ _ _ _ (key 4 w4 y h0 h1 rfl) ?_
    refine View.allAt_cons_unit _ _ _ _ _ (key 3 w3 y h0 h1 rfl) ?_
    refine View.allAt_cons_unit _ _ _ _ _ (key 2 w2 y h0 h1 rfl) ?_
    refine View.allAt_cons_unit _ _ _ _ _ (key 1 w1 y h0 h1 rfl) ?_
    refine View.allAt_cons_unit _ _ _ _ _ (key 0 w0 y h0 h1 rfl) ?_
    exact View.allAt_nil _ _

/-- A load of one row of a block stored whole. -/
theorem row_at (m19 : Memref sig .tc .vmem S8x128 .f32) (w : Vec Ideal S8x128 .f32) (i : Fin 8) (inb : ∀ a, (![i.val, 0] : Fin 2 → ℕ) a + S1x128.size a ≤ S8x128.size a) (n : Fin 128) :
    m19.view.readCov [⟨Rect.unit ![0, 0] S8x128.size inb_S8x128_S8x128_0_0, w⟩] (Rect.unit (s := S8x128) ![i.val, 0] S1x128.size inb).toLoadRect (ix2 0 n) = w (ix2 i n) := by
  rw [View.readCov_eq_canon']
  dsimp only
  generalize hy : (LoadRect.idx (s := S8x128) (Rect.unit (s := S8x128) ![i.val, 0] S1x128.size inb).toLoadRect (ix2 0 n)) = y
  have h0 : (y 0).val = i.val := by rw [← hy]; show i.val + 1 * 0 = i.val; omega
  have h1 : (y 1).val = n.val := by rw [← hy]; show 0 + 1 * n.val = n.val; omega
  refine View.canon_eq_of_allAt _ _ _ ?_ ?_
  · exact View.cover_of_tiled_head _ _ _ rfl y
  · refine View.allAt_cons_unit _ _ _ _ _ ?_ (View.allAt_nil _ _)
    intro x hx
    have a0 : (y 0).val = 0 + (x 0).val := hx 0
    have a1 : (y 1).val = 0 + (x 1).val := hx 1
    have e : x = ix2 i n := by
      funext a; fin_cases a
      · exact Fin.ext (by show (x 0).val = i.val; omega)
      · exact Fin.ext (by show (x 1).val = n.val; omega)
    rw [e]

section Block
variable {x5 : Vec Ideal S1x2x128 .bf16} {x7 : Vec Ideal S1x112x128 .f32} {x8 : Vec Ideal S1x112x64x128 .fp8e4m3} {dec : Fin 112 → EReal} {dxf : Fin 64 → Fin 112 → EReal}
  {q : Fin 14} {b : FVec Ideal S1x128 .f32} {sc : Vec Ideal S1x8x128 .f32} {de : Vec Ideal S8x1 .f32} {dx : Vec Ideal S1x64x128 .f32} {cb : Fin 8 → Vec Ideal S1x1x64x128 .fp8e4m3}
  (H : Loads x5 x7 x8 dec dxf q b sc de dx cb)
  (m18 : Memref sig .tc .vmem S64x128 .f32) (m19 : Memref sig .tc .vmem S8x128 .f32)
include H

theorem head_val (i : Fin 8) (p : Fin 64) (n : Fin 128) : headV b (k0_pay3 sc de) (k0_pay4 dx) (cb i) i (ix2 p n) = hNew x5 x7 x8 dec dxf (hd q i) p n := by
  unfold hNew
  rw [← H.hcb i p n, ← H.hsc i n, ← H.hde i, ← H.hdx p i, ← H.hb i n]
  pointwise [headV, k0_pay3, k0_pay4, k0_pay2]

theorem amax_val (i : Fin 8) (n : Fin 128) : A27 b sc de dx cb m18 (ix2 i n) * cq = tq x5 x7 x8 dec dxf (hd q i) n := by
  unfold tq
  congr 1
  have e : ∀ j : Fin 8, (![partV (headV b (k0_pay3 sc de) (k0_pay4 dx) (cb 0) 0), partV (headV b (k0_pay3 sc de) (k0_pay4 dx) (cb 1) 1), partV (headV b (k0_pay3 sc de) (k0_pay4 dx) (cb 2) 2), partV (headV b (k0_pay3 sc de) (k0_pay4 dx) (cb 3) 3), partV (headV b (k0_pay3 sc de) (k0_pay4 dx) (cb 4) 4), partV (headV b (k0_pay3 sc de) (k0_pay4 dx) (cb 5) 5), partV (headV b (k0_pay3 sc de) (k0_pay4 dx) (cb 6) 6), partV (headV b (k0_pay3 sc de) (k0_pay4 dx) (cb 7) 7)] : Fin 8 → FVec Ideal S8x128 .f32) i (ix2 j n) = partV (headV b (k0_pay3 sc de) (k0_pay4 dx) (cb i) i) (ix2 j n) := by
    intro j; fin_cases i <;> rfl
  unfold A27 L18
  rw [part0, part1, part2, part3, part4, part5, part6, part7, head0, head1, head2, head3, head4, head5, head6, head7]
  refine (amax_at _ _ _ _ _ _ _ _ i n (headV b (k0_pay3 sc de) (k0_pay4 dx) (cb i) i) ((strided_at m18 _ _ _ _ _ _ _ _ 0 _ i n).trans (e 0)) ((strided_at m18 _ _ _ _ _ _ _ _ 1 _ i n).trans (e 1)) ((strided_at m18 _ _ _ _ _ _ _ _ 2 _ i n).trans (e 2)) ((strided_at m18 _ _ _ _ _ _ _ _ 3 _ i n).trans (e 3)) ((strided_at m18 _ _ _ _ _ _ _ _ 4 _ i n).trans (e 4)) ((strided_at m18 _ _ _ _ _ _ _ _ 5 _ i n).trans (e 5)) ((strided_at m18 _ _ _ _ _ _ _ _ 6 _ i n).trans (e 6)) ((strided_at m18 _ _ _ _ _ _ _ _ 7 _ i n).trans (e 7))).trans ?_
  unfold amax mag
  simp only [head_val H]

theorem scale_val (i : Fin 8) (n : Fin 128) : k0_pay31 (k0_pay28 (A27 b sc de dx cb m18)) (k0_pay29 (A27 b sc de dx cb m18)) 2#32 (ix3 0 i n) = scaleV x5 x7 x8 dec dxf (hd q i) n := by
  rw [scale_at, amax_val H]; rfl

theorem inv_val (i : Fin 8) (inb : ∀ a, (![i.val, 0] : Fin 2 → ℕ) a + S1x128.size a ≤ S8x128.size a) (n : Fin 128) :
    m19.view.readCov (L19 b sc de dx cb m18) (Rect.unit (s := S8x128) ![i.val, 0] S1x128.size inb).toLoadRect (ix2 0 n) = kinv (tq x5 x7 x8 dec dxf (hd q i) n) := by
  rw [row_at, inv_at, amax_val H]

/-- A head's state times its inverse scale, clamped. -/
theorem code_val (i : Fin 8) (inb : ∀ a, (![i.val, 0] : Fin 2 → ℕ) a + S1x128.size a ≤ S8x128.size a) (v : FVec Ideal S64x128 .f32) (hv : v = headV b (k0_pay3 sc de) (k0_pay4 dx) (cb i) i) (p : Fin 64) (n : Fin 128) :
    clampV (v (ix2 p n) * m19.view.readCov (L19 b sc de dx cb m18) (Rect.unit (s := S8x128) ![i.val, 0] S1x128.size inb).toLoadRect (ix2 0 n)) = codesV x5 x7 x8 dec dxf (hd q i) p n := by
  rw [inv_val H m18 m19 i inb n, hv, head_val H]; rfl

theorem codes_val0 (p : Fin 64) (n : Fin 128) : k0_pay33 (k0_pay5 b sc de dx (cb 0)) (m19.view.readCov (L19 b sc de dx cb m18) (Rect.unit (s := S8x128) ![0, 0] S1x128.size inb_S8x128_S1x128_0_0).toLoadRect) (ix4 0 0 p n) = codesV x5 x7 x8 dec dxf (hd q 0) p n :=
  (codes0 _ _ p n).trans (code_val H m18 m19 0 inb_S8x128_S1x128_0_0 _ (head0 ..) p n)
theorem codes_val1 (p : Fin 64) (n : Fin 128) : k0_pay34 (k0_pay9 b (k0_pay3 sc de) (k0_pay4 dx) (cb 1)) (m19.view.readCov (L19 b sc de dx cb m18) (Rect.unit (s := S8x128) ![1, 0] S1x128.size inb_S8x128_S1x128_1_0).toLoadRect) (ix4 0 0 p n) = codesV x5 x7 x8 dec dxf (hd q 1) p n :=
  (codes1 _ _ p n).trans (code_val H m18 m19 1 inb_S8x128_S1x128_1_0 _ (head1 ..) p n)
theorem codes_val2 (p : Fin 64) (n : Fin 128) : k0_pay36 (k0_pay35 (k0_pay11 b (k0_pay3 sc de) (k0_pay4 dx) (cb 2)) (m19.view.readCov (L19 b sc de dx cb m18) (Rect.unit (s := S8x128) ![2, 0] S1x128.size inb_S8x128_S1x128_2_0).toLoadRect)) (ix4 0 0 p n) = codesV x5 x7 x8 dec dxf (hd q 2) p n :=
  (codes2 _ _ p n).trans (code_val H m18 m19 2 inb_S8x128_S1x128_2_0 _ (head2 ..) p n)
theorem codes_val3 (p : Fin 64) (n : Fin 128) : k0_pay37 (k0_pay13 b (k0_pay3 sc de) (k0_pay4 dx) (cb 3)) (m19.view.readCov (L19 b sc de dx cb m18) (Rect.unit (s := S8x128) ![3, 0] S1x128.size inb_S8x128_S1x128_3_0).toLoadRect) (ix4 0 0 p n) = codesV x5 x7 x8 dec dxf (hd q 3) p n :=
  (codes3 _ _ p n).trans (code_val H m18 m19 3 inb_S8x128_S1x128_3_0 _ (head3 ..) p n)
theorem codes_val4 (p : Fin 64) (n : Fin 128) : k0_pay38 (k0_pay17 b (k0_pay3 sc de) (k0_pay4 dx) (cb 4)) (m19.view.readCov (L19 b sc de dx cb m18) (Rect.unit (s := S8x128) ![4, 0] S1x128.size inb_S8x128_S1x128_4_0).toLoadRect) (ix4 0 0 p n) = codesV x5 x7 x8 dec dxf (hd q 4) p n :=
  (codes4 _ _ p n).trans (code_val H m18 m19 4 inb_S8x128_S1x128_4_0 _ (head4 ..) p n)
theorem codes_val5 (p : Fin 64) (n : Fin 128) : k0_pay40 (k0_pay39 (k0_pay21 b (k0_pay3 sc de) (k0_pay4 dx) (cb 5)) (m19.view.readCov (L19 b sc de dx cb m18) (Rect.unit (s := S8x128) ![5, 0] S1x128.size inb_S8x128_S1x128_5_0).toLoadRect)) (ix4 0 0 p n) = codesV x5 x7 x8 dec dxf (hd q 5) p n :=
  (codes5 _ _ p n).trans (code_val H m18 m19 5 inb_S8x128_S1x128_5_0 _ (head5 ..) p n)
theorem codes_val6 (p : Fin 64) (n : Fin 128) : k0_pay41 (k0_pay23 b (k0_pay3 sc de) (k0_pay4 dx) (cb 6)) (m19.view.readCov (L19 b sc de dx cb m18) (Rect.unit (s := S8x128) ![6, 0] S1x128.size inb_S8x128_S1x128_6_0).toLoadRect) (ix4 0 0 p n) = codesV x5 x7 x8 dec dxf (hd q 6) p n :=
  (codes6 _ _ p n).trans (code_val H m18 m19 6 inb_S8x128_S1x128_6_0 _ (head6 ..) p n)
theorem codes_val7 (p : Fin 64) (n : Fin 128) : k0_pay42 (k0_pay25 b (k0_pay3 sc de) (k0_pay4 dx) (cb 7)) (m19.view.readCov (L19 b sc de dx cb m18) (Rect.unit (s := S8x128) ![7, 0] S1x128.size inb_S8x128_S1x128_7_0).toLoadRect) (ix4 0 0 p n) = codesV x5 x7 x8 dec dxf (hd q 7) p n :=
  (codes7 _ _ p n).trans (code_val H m18 m19 7 inb_S8x128_S1x128_7_0 _ (head7 ..) p n)
end Block

end Cert.KernelIdeal.Run
-- ==== Proof.ValLoop.lean ====
/- The kernel's two head loops: after all their trips the codes, the scale and the products with the output projection are those of every head. -/
module

public import proofs.«01_k».proof.Proof.ValBlock

@[expose] public section

set_option maxRecDepth 16384

noncomputable section

namespace Cert.KernelIdeal.Run

open Idealize.ShloMosaic Idealize.ShloMosaic.TcCoe
open Cert.KernelIdeal.Gen

section Done
variable (x5 x6 : Vec Ideal S1x2x128 .bf16) (x7 : Vec Ideal S1x112x128 .f32) (x8 : Vec Ideal S1x112x64x128 .fp8e4m3) (dec : Fin 112 → EReal) (dxf : Fin 64 → Fin 112 → EReal)

/-- The codes as a block. -/
def G12 : S1x112x64x128.Idx → EReal := fun y => codesV x5 x7 x8 dec dxf (y 1) (y 2) (y 3)
/-- The scale as a block. -/
def G13 : S1x112x128.Idx → EReal := fun y => scaleV x5 x7 x8 dec dxf (y 1) (y 2)
/-- The products with the output projection: a row for each head, 64 lanes of it. -/
def G20 : S128x128.Idx → EReal := fun y => if h : (y 0).val < 112 ∧ (y 1).val < 64 then yRow x6 x7 x8 ⟨(y 0).val, h.1⟩ ⟨(y 1).val, h.2⟩ else 0

/-- The stores hold the values of the heads from `lo` up to `hi`. -/
structure Done (lo hi : ℕ) (L12 : List (View.Piece (Elt Ideal) S1x112x64x128 .fp8e4m3)) (L13 : List (View.Piece (Elt Ideal) S1x112x128 .f32)) (L20 : List (View.Piece (Elt Ideal) S128x128 .f32)) : Prop where
  at12 : ∀ y, View.AllAt L12 y (G12 x5 x7 x8 dec dxf y)
  at13 : ∀ y, View.AllAt L13 y (G13 x5 x7 x8 dec dxf y)
  at20 : ∀ y : S128x128.Idx, (y 1).val < 64 → View.AllAt L20 y (G20 x6 x7 x8 y)
  cov12 : ∀ y : S1x112x64x128.Idx, lo ≤ (y 1).val → (y 1).val < hi → ∃ p ∈ L12, y ∈ p.1.set
  cov13 : ∀ y : S1x112x128.Idx, lo ≤ (y 1).val → (y 1).val < hi → ∃ p ∈ L13, y ∈ p.1.set
  cov20 : ∀ y : S128x128.Idx, lo ≤ (y 0).val → (y 0).val < hi → ∃ p ∈ L20, y ∈ p.1.set

theorem allAt_append {S : Shape} {e : EltTy} {L L' : List (View.Piece (Elt Ideal) S e)} {y : S.Idx} {v : Elt Ideal e} (h : View.AllAt L y v) (h' : View.AllAt L' y v) : View.AllAt (L ++ L') y v := by
  intro p hp
  rcases List.mem_append.mp hp with hp | hp
  · exact h p hp
  · exact h' p hp

theorem cov_append {S : Shape} {e : EltTy} {L L' : List (View.Piece (Elt Ideal) S e)} {y : S.Idx} (h : (∃ p ∈ L, y ∈ p.1.set) ∨ ∃ p ∈ L', y ∈ p.1.set) : ∃ p ∈ L ++ L', y ∈ p.1.set := by
  rcases h with ⟨p, hp, hy⟩ | ⟨p, hp, hy⟩
  · exact ⟨p, List.mem_append_left _ hp, hy⟩
  · exact ⟨p, List.mem_append_right _ hp, hy⟩

variable {x5 x6 x7 x8 dec dxf}

theorem Done.nil (lo : ℕ) : Done x5 x6 x7 x8 dec dxf lo lo [] [] [] where
  at12 _ := View.allAt_nil _ _
  at13 _ := View.allAt_nil _ _
  at20 _ _ := View.allAt_nil _ _
  cov12 y h1 h2 := absurd h2 (by omega)
  cov13 y h1 h2 := absurd h2 (by omega)
  cov20 y h1 h2 := absurd h2 (by omega)

theorem Done.append {lo mid hi : ℕ} {L12 L12' L13 L13' L20 L20'} (h : Done x5 x6 x7 x8 dec dxf mid hi L12 L13 L20) (h' : Done x5 x6 x7 x8 dec dxf lo mid L12' L13' L20') :
    Done x5 x6 x7 x8 dec dxf lo hi (L12 ++ L12') (L13 ++ L13') (L20 ++ L20') where
  at12 y := allAt_append (h.at12 y) (h'.at12 y)
  at13 y := allAt_append (h.at13 y) (h'.at13 y)
  at20 y hy := allAt_append (h.at20 y hy) (h'.at20 y hy)
  cov12 y h1 h2 := cov_append (if hm : mid ≤ (y 1).val then .inl (h.cov12 y hm h2) else .inr (h'.cov12 y h1 (by omega)))
  cov13 y h1 h2 := cov_append (if hm : mid ≤ (y 1).val then .inl (h.cov13 y hm h2) else .inr (h'.cov13 y h1 (by omega)))
  cov20 y h1 h2 := cov_append (if hm : mid ≤ (y 0).val then .inl (h.cov20 y hm h2) else .inr (h'.cov20 y h1 (by omega)))
end Done

/-- An index lies in a unit rectangle it is inside of on every axis. -/
theorem mem_unit {S : Shape} (off size : Fin S.rank → ℕ) (inb : ∀ a, off a + size a ≤ S.size a) (y : S.Idx) (h : ∀ a, off a ≤ (y a).val ∧ (y a).val < off a + size a) : y ∈ (Rect.unit off size inb).set :=
  Rect.mem_set_unit.2 h

theorem cov_one {S : Shape} {e : EltTy} (off size : Fin S.rank → ℕ) (inb : ∀ a, off a + size a ≤ S.size a) (w : (Rect.unit off size inb).shape.Idx → Elt Ideal e) (y : S.Idx) (h : ∀ a, off a ≤ (y a).val ∧ (y a).val < off a + size a) :
    ∃ p ∈ [(⟨Rect.unit off size inb, w⟩ : View.Piece (Elt Ideal) S e)], y ∈ p.1.set :=
  ⟨⟨Rect.unit off size inb, w⟩, List.mem_singleton.2 rfl, mem_unit off size inb y h⟩

section Block
variable {x5 x6 : Vec Ideal S1x2x128 .bf16} {x7 : Vec Ideal S1x112x128 .f32} {x8 : Vec Ideal S1x112x64x128 .fp8e4m3} {dec : Fin 112 → EReal} {dxf : Fin 64 → Fin 112 → EReal}
  {q : Fin 14} {b : FVec Ideal S1x128 .f32} {sc : Vec Ideal S1x8x128 .f32} {de : Vec Ideal S8x1 .f32} {dx : Vec Ideal S1x64x128 .f32} {cb : Fin 8 → Vec Ideal S1x1x64x128 .fp8e4m3}
  (H : Loads x5 x7 x8 dec dxf q b sc de dx cb)

/-- A head's codes, stored at its place. -/
theorem tile12 (i : Fin 8) (w : Vec Ideal S1x1x64x128 .fp8e4m3) (hw : ∀ p n, w (ix4 0 0 p n) = codesV x5 x7 x8 dec dxf (hd q i) p n) (off : Fin 4 → ℕ) (ho : off = ![0, 8 * q.val + i.val, 0, 0]) (y : S1x112x64x128.Idx) :
    View.TileAt (Val := Elt Ideal) (e := .fp8e4m3) y off ![1, 1, 64, 128] w (G12 x5 x7 x8 dec dxf y) := by
  intro x hx
  subst ho
  have a1 : (y 1).val = 8 * q.val + i.val + (x 1).val := hx 1
  have a2 : (y 2).val = 0 + (x 2).val := hx 2
  have a3 : (y 3).val = 0 + (x 3).val := hx 3
  have x0 : (x 0).val < 1 := (x 0).isLt
  have x1 : (x 1).val < 1 := (x 1).isLt
  have e : x = ix4 0 0 (x 2) (x 3) := by
    funext a; fin_cases a
    · exact Fin.ext (by show (x 0).val = 0; omega)
    · exact Fin.ext (by show (x 1).val = 0; omega)
    · rfl
    · rfl
  rw [e]
  refine (hw (x 2) (x 3)).trans ?_
  unfold G12
  have e1 : hd q i = y 1 := Fin.ext (by show 8 * q.val + i.val = (y 1).val; omega)
  have e2 : x 2 = y 2 := Fin.ext (by omega)
  have e3 : x 3 = y 3 := Fin.ext (by omega)
  rw [e1, e2, e3]

/-- Eight heads' scales, stored at their place. -/
theorem tile13 (w : Vec Ideal S1x8x128 .f32) (hw : ∀ (i : Fin 8) n, w (ix3 0 i n) = scaleV x5 x7 x8 dec dxf (hd q i) n) (off : Fin 3 → ℕ) (ho : off = ![0, 8 * q.val, 0]) (y : S1x112x128.Idx) :
    View.TileAt (Val := Elt Ideal) (e := .f32) y off ![1, 8, 128] w (G13 x5 x7 x8 dec dxf y) := by
  intro x hx
  subst ho
  have a1 : (y 1).val = 8 * q.val + (x 1).val := hx 1
  have a2 : (y 2).val = 0 + (x 2).val := hx 2
  have x0 : (x 0).val < 1 := (x 0).isLt
  have e : x = ix3 0 (x 1) (x 2) := by
    funext a; fin_cases a
    · exact Fin.ext (by show (x 0).val = 0; omega)
    · rfl
    · rfl
  rw [e]
  refine (hw (x 1) (x 2)).trans ?_
  unfold G13
  have e1 : hd q (x 1) = y 1 := Fin.ext (by show 8 * q.val + (x 1).val = (y 1).val; omega)
  have e2 : x 2 = y 2 := Fin.ext (by omega)
  rw [e1, e2]

/-- Eight heads' products, stored at their place. -/
theorem tile20 (w : Vec Ideal S8x128 .f32) (hw : ∀ (i : Fin 8) (l : Fin 128) (hl : l.val < 64), w (ix2 i l) = yRow x6 x7 x8 (hd q i) ⟨l.val, hl⟩) (off : Fin 2 → ℕ) (ho : off = ![8 * q.val, 0]) (y : S128x128.Idx) (hy : (y 1).val < 64) :
    View.TileAt (Val := Elt Ideal) (e := .f32) y off ![8, 128] w (G20 x6 x7 x8 y) := by
  intro x hx
  subst ho
  have a0 : (y 0).val = 8 * q.val + (x 0).val := hx 0
  have a1 : (y 1).val = 0 + (x 1).val := hx 1
  have x0 : (x 0).val < 8 := (x 0).isLt
  have e : x = ix2 (x 0) (x 1) := by
    funext a; fin_cases a
    · rfl
    · rfl
  rw [e]
  refine (hw (x 0) (x 1) (by omega)).trans ?_
  unfold G20
  rw [dif_pos ⟨by omega, hy⟩]
  congr 1
  · exact Fin.ext (by show 8 * q.val + (x 0).val = (y 0).val; omega)
  · exact Fin.ext (by show (x 1).val = (y 1).val; omega)

/-- The stores of one trip, whatever terms their payloads are, hold the values of its eight heads. -/
theorem done_list (w0 w1 w2 w3 w4 w5 w6 w7 : Vec Ideal S1x1x64x128 .fp8e4m3) (w13 : Vec Ideal S1x8x128 .f32) (w20 : Vec Ideal S8x128 .f32)
    (h0 : ∀ p n, w0 (ix4 0 0 p n) = codesV x5 x7 x8 dec dxf (hd q 0) p n)
    (h1 : ∀ p n, w1 (ix4 0 0 p n) = codesV x5 x7 x8 dec dxf (hd q 1) p n)
    (h2 : ∀ p n, w2 (ix4 0 0 p n) = codesV x5 x7 x8 dec dxf (hd q 2) p n)
    (h3 : ∀ p n, w3 (ix4 0 0 p n) = codesV x5 x7 x8 dec dxf (hd q 3) p n)
    (h4 : ∀ p n, w4 (ix4 0 0 p n) = codesV x5 x7 x8 dec dxf (hd q 4) p n)
    (h5 : ∀ p n, w5 (ix4 0 0 p n) = codesV x5 x7 x8 dec dxf (hd q 5) p n)
    (h6 : ∀ p n, w6 (ix4 0 0 p n) = codesV x5 x7 x8 dec dxf (hd q 6) p n)
    (h7 : ∀ p n, w7 (ix4 0 0 p n) = codesV x5 x7 x8 dec dxf (hd q 7) p n)
    (h13 : ∀ (i : Fin 8) n, w13 (ix3 0 i n) = scaleV x5 x7 x8 dec dxf (hd q i) n)
    (h20 : ∀ (i : Fin 8) (l : Fin 128) (hl : l.val < 64), w20 (ix2 i l) = yRow x6 x7 x8 (hd q i) ⟨l.val, hl⟩)
    (o12 : Fin 8 → Fin 4 → ℕ) (ho12 : ∀ i, o12 i = ![0, 8 * q.val + i.val, 0, 0]) (i12 : ∀ i : Fin 8, ∀ a, o12 i a + (![1, 1, 64, 128] : Fin 4 → ℕ) a ≤ S1x112x64x128.size a)
    (o13 : Fin 3 → ℕ) (ho13 : o13 = ![0, 8 * q.val, 0]) (i13 : ∀ a, o13 a + (![1, 8, 128] : Fin 3 → ℕ) a ≤ S1x112x128.size a)
    (o20 : Fin 2 → ℕ) (ho20 : o20 = ![8 * q.val, 0]) (i20 : ∀ a, o20 a + (![8, 128] : Fin 2 → ℕ) a ≤ S128x128.size a) :
    Done x5 x6 x7 x8 dec dxf (8 * q.val) (8 * q.val + 8)
      [⟨Rect.unit (o12 7) ![1, 1, 64, 128] (i12 7), w7⟩,
      ⟨Rect.unit (o12 6) ![1, 1, 64, 128] (i12 6), w6⟩,
      ⟨Rect.unit (o12 5) ![1, 1, 64, 128] (i12 5), w5⟩,
      ⟨Rect.unit (o12 4) ![1, 1, 64, 128] (i12 4), w4⟩,
      ⟨Rect.unit (o12 3) ![1, 1, 64, 128] (i12 3), w3⟩,
      ⟨Rect.unit (o12 2) ![1, 1, 64, 128] (i12 2), w2⟩,
      ⟨Rect.unit (o12 1) ![1, 1, 64, 128] (i12 1), w1⟩,
      ⟨Rect.unit (o12 0) ![1, 1, 64, 128] (i12 0), w0⟩]
      [⟨Rect.unit o13 ![1, 8, 128] i13, w13⟩]
      [⟨Rect.unit o20 ![8, 128] i20, w20⟩] where
  at12 y := by
    refine View.allAt_cons_unit _ _ _ _ _ (tile12 (dec := dec) (dxf := dxf) 7 _ h7 _ (ho12 7) y) ?_
    refine View.allAt_cons_unit _ _ _ _ _ (tile12 (dec := dec) (dxf := dxf) 6 _ h6 _ (ho12 6) y) ?_
    refine View.allAt_cons_unit _ _ _ _ _ (tile12 (dec := dec) (dxf := dxf) 5 _ h5 _ (ho12 5) y) ?_
    refine View.allAt_cons_unit _ _ _ _ _ (tile12 (dec := dec) (dxf := dxf) 4 _ h4 _ (ho12 4) y) ?_
    refine View.allAt_cons_unit _ _ _ _ _ (tile12 (dec := dec) (dxf := dxf) 3 _ h3 _ (ho12 3) y) ?_
    refine View.allAt_cons_unit _ _ _ _ _ (tile12 (dec := dec) (dxf := dxf) 2 _ h2 _ (ho12 2) y) ?_
    refine View.allAt_cons_unit _ _ _ _ _ (tile12 (dec := dec) (dxf := dxf) 1 _ h1 _ (ho12 1) y) ?_
    refine View.allAt_cons_unit _ _ _ _ _ (tile12 (dec := dec) (dxf := dxf) 0 _ h0 _ (ho12 0) y) ?_
    exact View.allAt_nil _ _
  at13 y := View.allAt_cons_unit _ _ _ _ _ (tile13 _ h13 _ ho13 y) (View.allAt_nil _ _)
  at20 y hy := View.allAt_cons_unit _ _ _ _ _ (tile20 _ h20 _ ho20 y hy) (View.allAt_nil _ _)
  cov12 y h1 h2 := by
    have hm : ∀ i : Fin 8, (y 1).val = 8 * q.val + i.val → y ∈ (Rect.unit (o12 i) ![1, 1, 64, 128] (i12 i)).set := by
      intro i hi
      refine mem_unit _ _ _ y fun a => ?_
      rw [ho12 i]
      have b0 : (y 0).val < 1 := (y 0).isLt
      have b2 : (y 2).val < 64 := (y 2).isLt
      have b3 : (y 3).val < 128 := (y 3).isLt
      fin_cases a
      · exact ⟨Nat.zero_le _, by show (y 0).val < 0 + 1; omega⟩
      · exact ⟨by show 8 * q.val + i.val ≤ (y 1).val; omega, by show (y 1).val < 8 * q.val + i.val + 1; omega⟩
      · exact ⟨Nat.zero_le _, by show (y 2).val < 0 + 64; omega⟩
      · exact ⟨Nat.zero_le _, by show (y 3).val < 0 + 128; omega⟩
    have hi : ∃ i : Fin 8, (y 1).val = 8 * q.val + i.val := ⟨⟨(y 1).val - 8 * q.val, by omega⟩, by simp only; omega⟩
    obtain ⟨i, hi⟩ := hi
    have := hm i hi
    simp only [List.mem_cons, List.not_mem_nil, or_false, exists_eq_or_imp, exists_eq_left]
    clear hm hi
    fin_cases i
    · exact .inr (.inr (.inr (.inr (.inr (.inr (.inr (this)))))))
    · exact .inr (.inr (.inr (.inr (.inr (.inr (.inl this))))))
    · exact .inr (.inr (.inr (.inr (.inr (.inl this)))))
    · exact .inr (.inr (.inr (.inr (.inl this))))
    · exact .inr (.inr (.inr (.inl this)))
    · exact .inr (.inr (.inl this))
    · exact .inr (.inl this)
    · exact .inl this
  cov13 y h1 h2 := by
    refine cov_one o13 ![1, 8, 128] i13 w13 y fun a => ?_
    subst ho13
    have b0 : (y 0).val < 1 := (y 0).isLt
    have b2 : (y 2).val < 128 := (y 2).isLt
    fin_cases a
    · exact ⟨Nat.zero_le _, by show (y 0).val < 0 + 1; omega⟩
    · exact ⟨h1, h2⟩
    · exact ⟨Nat.zero_le _, by show (y 2).val < 0 + 128; omega⟩
  cov20 y h1 h2 := by
    refine cov_one o20 ![8, 128] i20 w20 y fun a => ?_
    subst ho20
    have b1 : (y 1).val < 128 := (y 1).isLt
    fin_cases a
    · exact ⟨h1, h2⟩
    · exact ⟨Nat.zero_le _, by show (y 1).val < 0 + 128; omega⟩

include H

theorem yrow_val (v82 v83 : IVec S8x128 32) (h82 : ∀ (i : Fin 8) (l : Fin 128), v82 (ix2 i l) = BitVec.ofNat 32 l.val) (h83 : ∀ (i : Fin 8) (l : Fin 128), v83 (ix2 i l) = BitVec.ofNat 32 i.val)
    (c : FVec Ideal S1x128 .f32) (hc : ∀ (i : Fin 8) n, c (ix2 0 n) = x6 (ix3 0 (grp (hd q i)) n)) (cs : Vec Ideal S1x8x64x128 .fp8e4m3) (hcs : ∀ (i : Fin 8) p n, cs (ix4 0 i p n) = x8 (ix4 0 (hd q i) p n)) (i : Fin 8) (l : Fin 128) (hl : l.val < 64) :
    k0_pay69 v83
      (k0_pay63 v82 v83
        (k0_pay58
          (k0_pay50 v82 v83 k0_pay45 (k0_pay46 (k0_pay43 c (k0_pay2 sc)) cs) (k0_pay47 v83) 64#32 (k0_pay48 v82) (k0_pay49 v82) 1#32)
          (k0_pay51 (k0_pay44 (k0_pay43 c (k0_pay2 sc)) cs)) (k0_pay54 v83 2#32 (k0_pay52 v83) (k0_pay53 v83) 1#32) (k0_pay55 v82) 2#32 (k0_pay56 v83) (k0_pay57 v83))
        (k0_pay59 (k0_pay44 (k0_pay43 c (k0_pay2 sc)) cs)) (k0_pay60 v83) 64#32 (k0_pay61 v82) (k0_pay62 v82))
      (k0_pay64 (k0_pay44 (k0_pay43 c (k0_pay2 sc)) cs)) (k0_pay67 v83 2#32 (k0_pay65 v83) (k0_pay66 v83)) (k0_pay68 v82) 2#32 0#32 (ix2 i l) = yRow x6 x7 x8 (hd q i) ⟨l.val, hl⟩ := by
  rw [gather_at v82 v83 h82 h83 _ cs i l hl, dot_at c (k0_pay2 sc) cs i ⟨64 * i.val + l.val, by omega⟩]
  unfold yRow
  refine Finset.sum_congr rfl fun n _ => ?_
  rw [hc i n, ← H.hsc i n, ← hcs i ⟨l.val, hl⟩ n]
  have e1 : (⟨(64 * i.val + l.val) / 64, by omega⟩ : Fin 8) = i := Fin.ext (by simp only; omega)
  have e2 : (⟨(64 * i.val + l.val) % 64, by omega⟩ : Fin 64) = ⟨l.val, hl⟩ := Fin.ext (by simp only; omega)
  have e3 : k0_pay2 sc (ix2 i n) = sc (ix3 0 i n) := by pointwise [k0_pay2]
  rw [e3]
  exact congrArg _ (by rw [e1, e2])

theorem done_block (m18 : Memref sig .tc .vmem S64x128 .f32) (m19 : Memref sig .tc .vmem S8x128 .f32)
    (v82 v83 : IVec S8x128 32) (h82 : ∀ (i : Fin 8) (l : Fin 128), v82 (ix2 i l) = BitVec.ofNat 32 l.val) (h83 : ∀ (i : Fin 8) (l : Fin 128), v83 (ix2 i l) = BitVec.ofNat 32 i.val)
    (c : FVec Ideal S1x128 .f32) (hc : ∀ (i : Fin 8) n, c (ix2 0 n) = x6 (ix3 0 (grp (hd q i)) n)) (cs : Vec Ideal S1x8x64x128 .fp8e4m3) (hcs : ∀ (i : Fin 8) p n, cs (ix4 0 i p n) = x8 (ix4 0 (hd q i) p n))
    (o12 : Fin 8 → Fin 4 → ℕ) (ho12 : ∀ i, o12 i = ![0, 8 * q.val + i.val, 0, 0]) (i12 : ∀ i : Fin 8, ∀ a, o12 i a + (![1, 1, 64, 128] : Fin 4 → ℕ) a ≤ S1x112x64x128.size a)
    (o13 : Fin 3 → ℕ) (ho13 : o13 = ![0, 8 * q.val, 0]) (i13 : ∀ a, o13 a + (![1, 8, 128] : Fin 3 → ℕ) a ≤ S1x112x128.size a)
    (o20 : Fin 2 → ℕ) (ho20 : o20 = ![8 * q.val, 0]) (i20 : ∀ a, o20 a + (![8, 128] : Fin 2 → ℕ) a ≤ S128x128.size a) :
    Done x5 x6 x7 x8 dec dxf (8 * q.val) (8 * q.val + 8)
      [⟨Rect.unit (o12 7) ![1, 1, 64, 128] (i12 7), k0_pay42 (k0_pay25 b (k0_pay3 sc de) (k0_pay4 dx) (cb 7)) (m19.view.readCov (L19 b sc de dx cb m18) (Rect.unit (s := S8x128) ![7, 0] S1x128.size inb_S8x128_S1x128_7_0).toLoadRect)⟩,
      ⟨Rect.unit (o12 6) ![1, 1, 64, 128] (i12 6), k0_pay41 (k0_pay23 b (k0_pay3 sc de) (k0_pay4 dx) (cb 6)) (m19.view.readCov (L19 b sc de dx cb m18) (Rect.unit (s := S8x128) ![6, 0] S1x128.size inb_S8x128_S1x128_6_0).toLoadRect)⟩,
      ⟨Rect.unit (o12 5) ![1, 1, 64, 128] (i12 5), k0_pay40 (k0_pay39 (k0_pay21 b (k0_pay3 sc de) (k0_pay4 dx) (cb 5)) (m19.view.readCov (L19 b sc de dx cb m18) (Rect.unit (s := S8x128) ![5, 0] S1x128.size inb_S8x128_S1x128_5_0).toLoadRect))⟩,
      ⟨Rect.unit (o12 4) ![1, 1, 64, 128] (i12 4), k0_pay38 (k0_pay17 b (k0_pay3 sc de) (k0_pay4 dx) (cb 4)) (m19.view.readCov (L19 b sc de dx cb m18) (Rect.unit (s := S8x128) ![4, 0] S1x128.size inb_S8x128_S1x128_4_0).toLoadRect)⟩,
      ⟨Rect.unit (o12 3) ![1, 1, 64, 128] (i12 3), k0_pay37 (k0_pay13 b (k0_pay3 sc de) (k0_pay4 dx) (cb 3)) (m19.view.readCov (L19 b sc de dx cb m18) (Rect.unit (s := S8x128) ![3, 0] S1x128.size inb_S8x128_S1x128_3_0).toLoadRect)⟩,
      ⟨Rect.unit (o12 2) ![1, 1, 64, 128] (i12 2), k0_pay36 (k0_pay35 (k0_pay11 b (k0_pay3 sc de) (k0_pay4 dx) (cb 2)) (m19.view.readCov (L19 b sc de dx cb m18) (Rect.unit (s := S8x128) ![2, 0] S1x128.size inb_S8x128_S1x128_2_0).toLoadRect))⟩,
      ⟨Rect.unit (o12 1) ![1, 1, 64, 128] (i12 1), k0_pay34 (k0_pay9 b (k0_pay3 sc de) (k0_pay4 dx) (cb 1)) (m19.view.readCov (L19 b sc de dx cb m18) (Rect.unit (s := S8x128) ![1, 0] S1x128.size inb_S8x128_S1x128_1_0).toLoadRect)⟩,
      ⟨Rect.unit (o12 0) ![1, 1, 64, 128] (i12 0), k0_pay33 (k0_pay5 b sc de dx (cb 0)) (m19.view.readCov (L19 b sc de dx cb m18) (Rect.unit (s := S8x128) ![0, 0] S1x128.size inb_S8x128_S1x128_0_0).toLoadRect)⟩]
      [⟨Rect.unit o13 ![1, 8, 128] i13, k0_pay31 (k0_pay28 (A27 b sc de dx cb m18)) (k0_pay29 (A27 b sc de dx cb m18)) 2#32⟩]
      [⟨Rect.unit o20 ![8, 128] i20, k0_pay69 v83
      (k0_pay63 v82 v83
        (k0_pay58
          (k0_pay50 v82 v83 k0_pay45 (k0_pay46 (k0_pay43 c (k0_pay2 sc)) cs) (k0_pay47 v83) 64#32 (k0_pay48 v82) (k0_pay49 v82) 1#32)
          (k0_pay51 (k0_pay44 (k0_pay43 c (k0_pay2 sc)) cs)) (k0_pay54 v83 2#32 (k0_pay52 v83) (k0_pay53 v83) 1#32) (k0_pay55 v82) 2#32 (k0_pay56 v83) (k0_pay57 v83))
        (k0_pay59 (k0_pay44 (k0_pay43 c (k0_pay2 sc)) cs)) (k0_pay60 v83) 64#32 (k0_pay61 v82) (k0_pay62 v82))
      (k0_pay64 (k0_pay44 (k0_pay43 c (k0_pay2 sc)) cs)) (k0_pay67 v83 2#32 (k0_pay65 v83) (k0_pay66 v83)) (k0_pay68 v82) 2#32 0#32⟩] :=
  done_list _ _ _ _ _ _ _ _ _ _ (codes_val0 H m18 m19) (codes_val1 H m18 m19) (codes_val2 H m18 m19) (codes_val3 H m18 m19) (codes_val4 H m18 m19) (codes_val5 H m18 m19) (codes_val6 H m18 m19) (codes_val7 H m18 m19) (scale_val H m18) (yrow_val H v82 v83 h82 h83 c hc cs hcs) o12 ho12 i12 o13 ho13 i13 o20 ho20 i20
end Block

end Cert.KernelIdeal.Run
-- ==== Proof.ValTrip.lean ====
/- The kernel's two head loops, trip by trip: the lists of stores the loops leave hold the values of all the heads. -/
module

public import proofs.«01_k».proof.Proof.ValLoop

@[expose] public section

set_option maxRecDepth 16384

noncomputable section

namespace Cert.KernelIdeal.Run

open Idealize.ShloMosaic Idealize.ShloMosaic.TcCoe
open Cert.KernelIdeal.Gen

theorem trips1 : k0_t1_loop.trips = 7 := by decide +kernel
theorem trips2 : k0_t2_loop.trips = 7 := by decide +kernel

/-- The blocks the first loop loads start at head `8 k`. -/
theorem off1 : ∀ k : Fin k0_t1_loop.trips, k0_off3 k = ![0, 8 * k.val, 0] ∧ k0_off4 k = ![8 * k.val, 0] ∧ k0_off5 k = ![k.val, 0, 0] ∧ k0_off7 k = ![0, 8 * k.val, 0, 0] ∧ k0_off8 k = ![8 * k.val, 0] ∧ ∀ r : Fin 8, k0_off6 k (BitVec.ofNat 32 r.val) = ![0, 8 * k.val + r.val, 0, 0] := by decide +kernel
/-- The blocks the second loop loads start at head `8 (7 + k)`. -/
theorem off2 : ∀ k : Fin k0_t2_loop.trips, k0_off9 k = ![0, 8 * (7 + k.val), 0] ∧ k0_off10 k = ![8 * (7 + k.val), 0] ∧ k0_off11 k = ![7 + k.val, 0, 0] ∧ k0_off13 k = ![0, 8 * (7 + k.val), 0, 0] ∧ k0_off14 k = ![8 * (7 + k.val), 0] ∧ ∀ r : Fin 8, k0_off12 k (BitVec.ofNat 32 r.val) = ![0, 8 * (7 + k.val) + r.val, 0, 0] := by decide +kernel

theorem Done.cast {x5 x6 : Vec Ideal S1x2x128 .bf16} {x7 : Vec Ideal S1x112x128 .f32} {x8 : Vec Ideal S1x112x64x128 .fp8e4m3} {dec : Fin 112 → EReal} {dxf : Fin 64 → Fin 112 → EReal} {lo hi lo' hi' : ℕ} {L12 L13 L20} (h : Done x5 x6 x7 x8 dec dxf lo hi L12 L13 L20) (e1 : lo = lo') (e2 : hi = hi') : Done x5 x6 x7 x8 dec dxf lo' hi' L12 L13 L20 := by
  subst e1; subst e2; exact h

section Loop
variable (𝒱 : Variants)
  (c : Dev nD)
  (bd : Option 𝒱.V)
  (i : grid0.Coords)
  (arg1 : Memref sig .tc .smem S40 .i32) (harg1 : arg1.IsWhole)
  (arg2 : Memref sig .tc .vmem S40x112 .bf16) (harg2 : arg2.IsWhole)
  (arg3 : Memref sig .tc .vmem S1x112 .f32) (harg3 : arg3.IsWhole)
  (arg4 : Memref sig .tc .vmem S1x112 .f32) (harg4 : arg4.IsWhole)
  (arg5 : Memref sig .tc .vmem S1x112 .f32) (harg5 : arg5.IsWhole)
  (arg6 : Memref sig .tc .vmem S1x64x112 .bf16) (harg6 : arg6.IsWhole)
  (arg7 : Memref sig .tc .vmem S1x2x128 .bf16) (harg7 : arg7.IsWhole)
  (arg8 : Memref sig .tc .vmem S1x2x128 .bf16) (harg8 : arg8.IsWhole)
  (arg9 : Memref sig .tc .vmem S1x112x128 .f32) (harg9 : arg9.IsWhole)
  (arg10 : Memref sig .tc .vmem S1x112x64x128 .fp8e4m3) (harg10 : arg10.IsWhole)
  (arg11 : Memref sig .tc .vmem S1x64x112 .bf16) (harg11 : arg11.IsWhole)
  (arg12 : Memref sig .tc .vmem S1x112x64x128 .fp8e4m3) (harg12 : arg12.IsWhole)
  (arg13 : Memref sig .tc .vmem S1x112x128 .f32) (harg13 : arg13.IsWhole)
  (arg14 : Memref sig .tc .vmem S40x112 .f32) (harg14 : arg14.IsWhole)
  (arg15 : Memref sig .tc .vmem S40x112 .f32) (harg15 : arg15.IsWhole)
  (arg16 : Memref sig .tc .vmem S14x64x128 .f32) (harg16 : arg16.IsWhole)
  (arg17 : Memref sig .tc .vmem S128x8 .f32) (harg17 : arg17.IsWhole)
  (arg18 : Memref sig .tc .vmem S64x128 .f32) (harg18 : arg18.IsWhole)
  (arg19 : Memref sig .tc .vmem S8x128 .f32) (harg19 : arg19.IsWhole)
  (arg20 : Memref sig .tc .vmem S128x128 .f32) (harg20 : arg20.IsWhole)
  (v6 : Vec Ideal S1x112 .f32)
  (v11 : FVec Ideal S64x112 .f32)
  (v60 : FVec Ideal S64x8 .f32)
  (v76 : Vec Ideal S1x2x128 .bf16)
  (v79 : Vec Ideal S1x2x128 .bf16)
  (v82 : IVec S8x128 32)
  (v83 : IVec S8x128 32)
  (X_arg9 : BufTy.Contents (Elt Ideal) arg9.view.ty)
  (X_arg10 : BufTy.Contents (Elt Ideal) arg10.view.ty)
  (X_arg16 : BufTy.Contents (Elt Ideal) arg16.view.ty)
  (X_arg17 : BufTy.Contents (Elt Ideal) arg17.view.ty)
variable {x5 x6 : Vec Ideal S1x2x128 .bf16} {x7 : Vec Ideal S1x112x128 .f32} {x8 : Vec Ideal S1x112x64x128 .fp8e4m3} {dec : Fin 112 → EReal} {dxf : Fin 64 → Fin 112 → EReal}

/-- What the loops find in memory. -/
structure LoopIn (x5 x6 : Vec Ideal S1x2x128 .bf16) (x7 : Vec Ideal S1x112x128 .f32) (x8 : Vec Ideal S1x112x64x128 .fp8e4m3) (dec : Fin 112 → EReal) (dxf : Fin 64 → Fin 112 → EReal) : Prop where
  h76 : v76 = x5
  h79 : v79 = x6
  h82 : ∀ (i : Fin 8) (l : Fin 128), v82 (ix2 i l) = BitVec.ofNat 32 l.val
  h83 : ∀ (i : Fin 8) (l : Fin 128), v83 (ix2 i l) = BitVec.ofNat 32 i.val
  h9 : arg9.view.read (Elt Ideal) X_arg9 = x7
  h10 : arg10.view.read (Elt Ideal) X_arg10 = x8
  h16 : ∀ (q : Fin 14) (p : Fin 64) (i : Fin 8), arg16.view.read (Elt Ideal) X_arg16 (ix3 q p ⟨i.val, by omega⟩) = dxf p (hd q i)
  h17 : ∀ h : Fin 112, arg17.view.read (Elt Ideal) X_arg17 (ix2 ⟨h.val, by omega⟩ 0) = dec h

variable {arg9 arg10 arg16 arg17 v76 v79 v82 v83 X_arg9 X_arg10 X_arg16 X_arg17}
variable (H : LoopIn arg9 arg10 arg16 arg17 v76 v79 v82 v83 X_arg9 X_arg10 X_arg16 X_arg17 x5 x6 x7 x8 dec dxf)
include H

/-- The loads of block `q`, at their offsets. -/
theorem loads_of (q : Fin 14) (b : FVec Ideal S1x128 .f32) (hb : ∀ (i : Fin 8) n, b (ix2 0 n) = x5 (ix3 0 (grp (hd q i)) n))
    (o9 : Fin 3 → ℕ) (ho9 : o9 = ![0, 8 * q.val, 0]) (i9 : ∀ a, o9 a + S1x8x128.size a ≤ S1x112x128.size a)
    (o17 : Fin 2 → ℕ) (ho17 : o17 = ![8 * q.val, 0]) (i17 : ∀ a, o17 a + S8x1.size a ≤ S128x8.size a)
    (o16 : Fin 3 → ℕ) (ho16 : o16 = ![q.val, 0, 0]) (i16 : ∀ a, o16 a + S1x64x128.size a ≤ S14x64x128.size a)
    (o10 : Fin 8 → Fin 4 → ℕ) (ho10 : ∀ i, o10 i = ![0, 8 * q.val + i.val, 0, 0]) (i10 : ∀ i : Fin 8, ∀ a, o10 i a + S1x1x64x128.size a ≤ S1x112x64x128.size a) :
    Loads x5 x7 x8 dec dxf q b (arg9.view.readAt (Elt Ideal) (Rect.unit (s := S1x112x128) o9 S1x8x128.size i9).toLoadRect X_arg9)
      (arg17.view.readAt (Elt Ideal) (Rect.unit (s := S128x8) o17 S8x1.size i17).toLoadRect X_arg17)
      (arg16.view.readAt (Elt Ideal) (Rect.unit (s := S14x64x128) o16 S1x64x128.size i16).toLoadRect X_arg16)
      (fun i => arg10.view.readAt (Elt Ideal) (Rect.unit (s := S1x112x64x128) (o10 i) S1x1x64x128.size (i10 i)).toLoadRect X_arg10) where
  hb := hb
  hsc i n := by
    subst ho9
    rw [← H.h9]
    show arg9.view.read (Elt Ideal) X_arg9 _ = _
    congr 1; funext a
    fin_cases a <;> apply Fin.ext
    · rfl
    · show 8 * q.val + 1 * i.val = 8 * q.val + i.val; omega
    · show 0 + 1 * n.val = n.val; omega
  hde i := by
    subst ho17
    rw [← H.h17]
    show arg17.view.read (Elt Ideal) X_arg17 _ = _
    congr 1; funext a
    fin_cases a <;> apply Fin.ext
    · show 8 * q.val + 1 * i.val = 8 * q.val + i.val; omega
    · rfl
  hdx p i := by
    subst ho16
    rw [← H.h16]
    show arg16.view.read (Elt Ideal) X_arg16 _ = _
    congr 1; funext a
    fin_cases a <;> apply Fin.ext
    · rfl
    · show 0 + 1 * p.val = p.val; omega
    · show 0 + 1 * i.val = i.val; omega
  hcb i p n := by
    rw [← H.h10]
    show arg10.view.read (Elt Ideal) X_arg10 _ = _
    congr 1; funext a
    have e := congrFun (ho10 i) a
    fin_cases a <;> apply Fin.ext
    · show o10 i 0 + 1 * 0 = 0; rw [ho10 i]; rfl
    · show o10 i 1 + 1 * 0 = 8 * q.val + i.val; rw [ho10 i]; rfl
    · show o10 i 2 + 1 * p.val = p.val; rw [ho10 i]; show 0 + 1 * p.val = p.val; omega
    · show o10 i 3 + 1 * n.val = n.val; rw [ho10 i]; show 0 + 1 * n.val = n.val; omega

/-- The load of a block's eight code planes. -/
theorem planes_of (q : Fin 14) (o : Fin 4 → ℕ) (ho : o = ![0, 8 * q.val, 0, 0]) (inb : ∀ a, o a + S1x8x64x128.size a ≤ S1x112x64x128.size a) (i : Fin 8) (p : Fin 64) (n : Fin 128) :
    arg10.view.readAt (Elt Ideal) (Rect.unit (s := S1x112x64x128) o S1x8x64x128.size inb).toLoadRect X_arg10 (ix4 0 i p n) = x8 (ix4 0 (hd q i) p n) := by
  subst ho
  rw [← H.h10]
  show arg10.view.read (Elt Ideal) X_arg10 _ = _
  congr 1; funext a
  fin_cases a <;> apply Fin.ext
  · rfl
  · show 8 * q.val + 1 * i.val = 8 * q.val + i.val; omega
  · show 0 + 1 * p.val = p.val; omega
  · show 0 + 1 * n.val = n.val; omega

theorem trip1 (k : Fin k0_t1_loop.trips) (f12 : BufTy.Contents (Elt Ideal) arg12.view.ty) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) :
    Done x5 x6 x7 x8 dec dxf (8 * k.val) (8 * k.val + 8) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 k f12 f13 f18 f19 f20).1 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 k f12 f13 f18 f19 f20).2.1 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 k f12 f13 f18 f19 f20).2.2.2.2 := by
  obtain ⟨e3, e4, e5, e7, e8, e6⟩ := off1 k
  have hb : ∀ (i : Fin 8) n, k0_pay161 (F := Ideal) v76 (ix2 0 n) = x5 (ix3 0 (grp (hd ⟨k.val, by have := k.isLt; have := trips1; omega⟩ i)) n) := by
    intro i n
    have e : grp (hd ⟨k.val, by have := k.isLt; have := trips1; omega⟩ i) = 0 := Fin.ext (by have := k.isLt; have := trips1; show _ / 56 = _; simp only [hd]; show _ = 0; omega)
    rw [e, H.h76]
    pointwise [k0_pay161, k0_pay159]
  have hc : ∀ (i : Fin 8) n, k0_pay162 (F := Ideal) v79 (ix2 0 n) = x6 (ix3 0 (grp (hd ⟨k.val, by have := k.isLt; have := trips1; omega⟩ i)) n) := by
    intro i n
    have e : grp (hd ⟨k.val, by have := k.isLt; have := trips1; omega⟩ i) = 0 := Fin.ext (by have := k.isLt; have := trips1; show _ / 56 = _; simp only [hd]; show _ = 0; omega)
    rw [e, H.h79]
    pointwise [k0_pay162, k0_pay160]
  have L := loads_of H ⟨k.val, by have := k.isLt; have := trips1; omega⟩ _ hb (k0_off3 k) e3 (k0_off3_inb k) (k0_off4 k) e4 (k0_off4_inb k) (k0_off5 k) e5 (k0_off5_inb k) (fun i => k0_off6 k (BitVec.ofNat 32 i.val)) e6 (k0_off6_inb k)
  have := done_block L arg18 arg19 v82 v83 H.h82 H.h83 _ hc _ (planes_of H ⟨k.val, by have := k.isLt; have := trips1; omega⟩ (k0_off7 k) e7 (k0_off7_inb k)) (fun i => k0_off6 k (BitVec.ofNat 32 i.val)) e6 (k0_off6_inb k) (k0_off3 k) e3 (k0_off3_inb k) (k0_off8 k) e8 (k0_off8_inb k)
  unfold tripL_k0_t1 trip_k0_t1
  dsimp only
  exact this

theorem trip2 (k : Fin k0_t2_loop.trips) (f12 : BufTy.Contents (Elt Ideal) arg12.view.ty) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) :
    Done x5 x6 x7 x8 dec dxf (8 * (7 + k.val)) (8 * (7 + k.val) + 8) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 k f12 f13 f18 f19 f20).1 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 k f12 f13 f18 f19 f20).2.1 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 k f12 f13 f18 f19 f20).2.2.2.2 := by
  obtain ⟨e3, e4, e5, e7, e8, e6⟩ := off2 k
  have hb : ∀ (i : Fin 8) n, k0_pay163 (F := Ideal) v76 (ix2 0 n) = x5 (ix3 0 (grp (hd ⟨7 + k.val, by have := k.isLt; have := trips2; omega⟩ i)) n) := by
    intro i n
    have e : grp (hd ⟨7 + k.val, by have := k.isLt; have := trips2; omega⟩ i) = 1 := Fin.ext (by have := k.isLt; have := trips2; show _ / 56 = _; simp only [hd]; show _ = 1; omega)
    rw [e, H.h76]
    pointwise [k0_pay163, k0_pay159]
  have hc : ∀ (i : Fin 8) n, k0_pay164 (F := Ideal) v79 (ix2 0 n) = x6 (ix3 0 (grp (hd ⟨7 + k.val, by have := k.isLt; have := trips2; omega⟩ i)) n) := by
    intro i n
    have e : grp (hd ⟨7 + k.val, by have := k.isLt; have := trips2; omega⟩ i) = 1 := Fin.ext (by have := k.isLt; have := trips2; show _ / 56 = _; simp only [hd]; show _ = 1; omega)
    rw [e, H.h79]
    pointwise [k0_pay164, k0_pay160]
  have L := loads_of H ⟨7 + k.val, by have := k.isLt; have := trips2; omega⟩ _ hb (k0_off9 k) e3 (k0_off9_inb k) (k0_off10 k) e4 (k0_off10_inb k) (k0_off11 k) e5 (k0_off11_inb k) (fun i => k0_off12 k (BitVec.ofNat 32 i.val)) e6 (k0_off12_inb k)
  have := done_block L arg18 arg19 v82 v83 H.h82 H.h83 _ hc _ (planes_of H ⟨7 + k.val, by have := k.isLt; have := trips2; omega⟩ (k0_off13 k) e7 (k0_off13_inb k)) (fun i => k0_off12 k (BitVec.ofNat 32 i.val)) e6 (k0_off12_inb k) (k0_off9 k) e3 (k0_off9_inb k) (k0_off14 k) e8 (k0_off14_inb k)
  unfold tripL_k0_t2 trip_k0_t2
  dsimp only
  exact this

/-- The stores of the first `n` trips. -/
theorem loop1 (G12 : BufTy.Contents (Elt Ideal) arg12.view.ty) (G13 : BufTy.Contents (Elt Ideal) arg13.view.ty) (G18 : BufTy.Contents (Elt Ideal) arg18.view.ty) (G19 : BufTy.Contents (Elt Ideal) arg19.view.ty) (G20 : BufTy.Contents (Elt Ideal) arg20.view.ty) (n : ℕ) (hn : n ≤ 7) :
    Done x5 x6 x7 x8 dec dxf 0 (0 + 8 * n) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).1 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.1 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.2.2.2 := by
  induction n with
  | zero => exact Done.nil _
  | succ n ih =>
    have hk : n < k0_t1_loop.trips := by have := trips1; omega
    have e : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 (n + 1)) = _ := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 ⟨n, hk⟩
    rw [e]
    have t := trip1 𝒱 c bd i arg1 harg1 arg2 harg2 arg3 harg3 arg4 harg4 arg5 harg5 arg6 harg6 arg7 harg7 arg8 harg8 harg9 harg10 arg11 harg11 arg12 harg12 arg13 harg13 arg14 harg14 arg15 harg15 harg16 harg17 arg18 harg18 arg19 harg19 arg20 harg20 v6 v11 v60 H ⟨n, hk⟩ (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).1) (arg13.view.writes (Elt Ideal) G13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.1) (arg18.view.writes (Elt Ideal) G18 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.2.1) (arg19.view.writes (Elt Ideal) G19 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.2.2.1) (arg20.view.writes (Elt Ideal) G20 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.2.2.2)
    have i := ih (by omega)
    have e1 : (8 * n : ℕ) = 0 + 8 * n := by omega
    have e2 : (8 * n + 8 : ℕ) = 0 + 8 * (n + 1) := by omega
    exact (t.cast e1 e2).append i

/-- The stores of the first `n` trips. -/
theorem loop2 (G12 : BufTy.Contents (Elt Ideal) arg12.view.ty) (G13 : BufTy.Contents (Elt Ideal) arg13.view.ty) (G18 : BufTy.Contents (Elt Ideal) arg18.view.ty) (G19 : BufTy.Contents (Elt Ideal) arg19.view.ty) (G20 : BufTy.Contents (Elt Ideal) arg20.view.ty) (n : ℕ) (hn : n ≤ 7) :
    Done x5 x6 x7 x8 dec dxf 56 (56 + 8 * n) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).1 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.1 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.2.2.2 := by
  induction n with
  | zero => exact Done.nil _
  | succ n ih =>
    have hk : n < k0_t2_loop.trips := by have := trips2; omega
    have e : (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 (n + 1)) = _ := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 ⟨n, hk⟩
    rw [e]
    have t := trip2 𝒱 c bd i arg1 harg1 arg2 harg2 arg3 harg3 arg4 harg4 arg5 harg5 arg6 harg6 arg7 harg7 arg8 harg8 harg9 harg10 arg11 harg11 arg12 harg12 arg13 harg13 arg14 harg14 arg15 harg15 harg16 harg17 arg18 harg18 arg19 harg19 arg20 harg20 v6 v11 v60 H ⟨n, hk⟩ (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).1) (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.1) (arg18.view.writes (Elt Ideal) G18 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.2.1) (arg19.view.writes (Elt Ideal) G19 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.2.2.1) (arg20.view.writes (Elt Ideal) G20 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 n).2.2.2.2)
    have i := ih (by omega)
    have e1 : (8 * (7 + n) : ℕ) = 56 + 8 * n := by omega
    have e2 : (8 * (7 + n) + 8 : ℕ) = 56 + 8 * (n + 1) := by omega
    exact (t.cast e1 e2).append i
end Loop

end Cert.KernelIdeal.Run
-- ==== Proof.ValOut.lean ====
/- What one grid point leaves: the loops' stores read back, the scaled inputs and the decay column the loops load, and the row of outputs. -/
module

public import proofs.«01_k».proof.Proof.ValTrip
public import Idealize.ShloMosaic.Lib.VecWindow

@[expose] public section

set_option maxRecDepth 16384

noncomputable section

namespace Cert.KernelIdeal.Run

open Idealize.ShloMosaic Idealize.ShloMosaic.TcCoe
open Cert.KernelIdeal.Gen

/-- A buffer read after stores that cover an index and agree there. -/
theorem read_of_allAt {S : Shape} {e : EltTy} {κ : Kind} {sp : Space} (v : View sig κ sp S e) (f : v.ty.Contents (Elt Ideal)) (L : List (View.Piece (Elt Ideal) S e)) (y : S.Idx) (a : Elt Ideal e) (hc : ∃ p ∈ L, y ∈ p.1.set) (h : View.AllAt L y a) : v.read (Elt Ideal) (v.writes (Elt Ideal) f L) y = a :=
  (View.read_writes_apply_eq_canon v f y L hc).trans (View.canon_eq_of_allAt L y a hc h)

section Loop
variable (𝒱 : Variants)
  (c : Dev nD)
  (bd : Option 𝒱.V)
  (i : grid0.Coords)
  (arg1 : Memref sig .tc .smem S40 .i32) (harg1 : arg1.IsWhole)
  (arg2 : Memref sig .tc .vmem S40x112 .bf16) (harg2 : arg2.IsWhole)
  (arg3 : Memref sig .tc .vmem S1x112 .f32) (harg3 : arg3.IsWhole)
  (arg4 : Memref sig .tc .vmem S1x112 .f32) (harg4 : arg4.IsWhole)
  (arg5 : Memref sig .tc .vmem S1x112 .f32) (harg5 : arg5.IsWhole)
  (arg6 : Memref sig .tc .vmem S1x64x112 .bf16) (harg6 : arg6.IsWhole)
  (arg7 : Memref sig .tc .vmem S1x2x128 .bf16) (harg7 : arg7.IsWhole)
  (arg8 : Memref sig .tc .vmem S1x2x128 .bf16) (harg8 : arg8.IsWhole)
  (arg9 : Memref sig .tc .vmem S1x112x128 .f32) (harg9 : arg9.IsWhole)
  (arg10 : Memref sig .tc .vmem S1x112x64x128 .fp8e4m3) (harg10 : arg10.IsWhole)
  (arg11 : Memref sig .tc .vmem S1x64x112 .bf16) (harg11 : arg11.IsWhole)
  (arg12 : Memref sig .tc .vmem S1x112x64x128 .fp8e4m3) (harg12 : arg12.IsWhole)
  (arg13 : Memref sig .tc .vmem S1x112x128 .f32) (harg13 : arg13.IsWhole)
  (arg14 : Memref sig .tc .vmem S40x112 .f32) (harg14 : arg14.IsWhole)
  (arg15 : Memref sig .tc .vmem S40x112 .f32) (harg15 : arg15.IsWhole)
  (arg16 : Memref sig .tc .vmem S14x64x128 .f32) (harg16 : arg16.IsWhole)
  (arg17 : Memref sig .tc .vmem S128x8 .f32) (harg17 : arg17.IsWhole)
  (arg18 : Memref sig .tc .vmem S64x128 .f32) (harg18 : arg18.IsWhole)
  (arg19 : Memref sig .tc .vmem S8x128 .f32) (harg19 : arg19.IsWhole)
  (arg20 : Memref sig .tc .vmem S128x128 .f32) (harg20 : arg20.IsWhole)
  (v6 : Vec Ideal S1x112 .f32)
  (v11 : FVec Ideal S64x112 .f32)
  (v60 : FVec Ideal S64x8 .f32)
  (v76 : Vec Ideal S1x2x128 .bf16)
  (v79 : Vec Ideal S1x2x128 .bf16)
  (v82 : IVec S8x128 32)
  (v83 : IVec S8x128 32)
  (X_arg9 : BufTy.Contents (Elt Ideal) arg9.view.ty)
  (X_arg10 : BufTy.Contents (Elt Ideal) arg10.view.ty)
  (X_arg16 : BufTy.Contents (Elt Ideal) arg16.view.ty)
  (X_arg17 : BufTy.Contents (Elt Ideal) arg17.view.ty)
variable {x5 x6 : Vec Ideal S1x2x128 .bf16} {x7 : Vec Ideal S1x112x128 .f32} {x8 : Vec Ideal S1x112x64x128 .fp8e4m3} {dec : Fin 112 → EReal} {dxf : Fin 64 → Fin 112 → EReal}
variable {arg9 arg10 arg16 arg17 v76 v79 v82 v83 X_arg9 X_arg10 X_arg16 X_arg17}
variable (H : LoopIn arg9 arg10 arg16 arg17 v76 v79 v82 v83 X_arg9 X_arg10 X_arg16 X_arg17 x5 x6 x7 x8 dec dxf)
include H

/-- Both loops' stores together hold every head's values. -/
theorem both (G12 : BufTy.Contents (Elt Ideal) arg12.view.ty) (G13 : BufTy.Contents (Elt Ideal) arg13.view.ty) (G18 : BufTy.Contents (Elt Ideal) arg18.view.ty) (G19 : BufTy.Contents (Elt Ideal) arg19.view.ty) (G20 : BufTy.Contents (Elt Ideal) arg20.view.ty)
  (G12' : BufTy.Contents (Elt Ideal) arg12.view.ty) (G13' : BufTy.Contents (Elt Ideal) arg13.view.ty) (G18' : BufTy.Contents (Elt Ideal) arg18.view.ty) (G19' : BufTy.Contents (Elt Ideal) arg19.view.ty) (G20' : BufTy.Contents (Elt Ideal) arg20.view.ty) :
    Done x5 x6 x7 x8 dec dxf 0 112 ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12' G13' G18' G19' G20' (Scf.trips k0_t2_loop.lb k0_t2_loop.ub k0_t2_loop.st)).1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 (Scf.trips k0_t1_loop.lb k0_t1_loop.ub k0_t1_loop.st)).1) ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12' G13' G18' G19' G20' (Scf.trips k0_t2_loop.lb k0_t2_loop.ub k0_t2_loop.st)).2.1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 (Scf.trips k0_t1_loop.lb k0_t1_loop.ub k0_t1_loop.st)).2.1) ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12' G13' G18' G19' G20' (Scf.trips k0_t2_loop.lb k0_t2_loop.ub k0_t2_loop.st)).2.2.2.2 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v11 v60 v76 v79 v82 v83 X_arg9 X_arg10 X_arg16 X_arg17 G12 G13 G18 G19 G20 (Scf.trips k0_t1_loop.lb k0_t1_loop.ub k0_t1_loop.st)).2.2.2.2) := by
  have e1 : Scf.trips k0_t1_loop.lb k0_t1_loop.ub k0_t1_loop.st = 7 := trips1
  have e2 : Scf.trips k0_t2_loop.lb k0_t2_loop.ub k0_t2_loop.st = 7 := trips2
  have h1 := loop1 𝒱 c bd i arg1 harg1 arg2 harg2 arg3 harg3 arg4 harg4 arg5 harg5 arg6 harg6 arg7 harg7 arg8 harg8 harg9 harg10 arg11 harg11 arg12 harg12 arg13 harg13 arg14 harg14 arg15 harg15 harg16 harg17 arg18 harg18 arg19 harg19 arg20 harg20 v6 v11 v60 H G12 G13 G18 G19 G20 _ e1.le
  have h2 := loop2 𝒱 c bd i arg1 harg1 arg2 harg2 arg3 harg3 arg4 harg4 arg5 harg5 arg6 harg6 arg7 harg7 arg8 harg8 harg9 harg10 arg11 harg11 arg12 harg12 arg13 harg13 arg14 harg14 arg15 harg15 harg16 harg17 arg18 harg18 arg19 harg19 arg20 harg20 v6 v11 v60 H G12' G13' G18' G19' G20' _ e2.le
  exact (h2.cast rfl (by rw [e2])).append (h1.cast rfl (by rw [e1]))
end Loop

section Out
variable {x5 x6 : Vec Ideal S1x2x128 .bf16} {x7 : Vec Ideal S1x112x128 .f32} {x8 : Vec Ideal S1x112x64x128 .fp8e4m3} {dec : Fin 112 → EReal} {dxf : Fin 64 → Fin 112 → EReal}
  {L12 : List (View.Piece (Elt Ideal) S1x112x64x128 .fp8e4m3)} {L13 : List (View.Piece (Elt Ideal) S1x112x128 .f32)} {L20 : List (View.Piece (Elt Ideal) S128x128 .f32)}
  (D : Done x5 x6 x7 x8 dec dxf 0 112 L12 L13 L20)
include D

theorem read12 (arg12 : Memref sig .tc .vmem S1x112x64x128 .fp8e4m3) (f : BufTy.Contents (Elt Ideal) arg12.view.ty) : arg12.view.read (Elt Ideal) (arg12.view.writes (Elt Ideal) f L12) = G12 x5 x7 x8 dec dxf :=
  funext fun y => read_of_allAt _ f L12 y _ (D.cov12 y (Nat.zero_le _) (y 1).isLt) (D.at12 y)

theorem read13 (arg13 : Memref sig .tc .vmem S1x112x128 .f32) (f : BufTy.Contents (Elt Ideal) arg13.view.ty) : arg13.view.read (Elt Ideal) (arg13.view.writes (Elt Ideal) f L13) = G13 x5 x7 x8 dec dxf :=
  funext fun y => read_of_allAt _ f L13 y _ (D.cov13 y (Nat.zero_le _) (y 1).isLt) (D.at13 y)

theorem read20 (arg20 : Memref sig .tc .vmem S128x128 .f32) (f : BufTy.Contents (Elt Ideal) arg20.view.ty) (h : Fin 112) (p : Fin 64) :
    arg20.view.readAt (Elt Ideal) (Rect.unit (s := S128x128) ![0, 0] ![128, 128] inb_S128x128_S128x128_0_0).toLoadRect (arg20.view.writes (Elt Ideal) f L20) (ix2 ⟨h.val, by omega⟩ ⟨p.val, by omega⟩) = yRow x6 x7 x8 h p := by
  have e := View.readAt_full (Val := Elt Ideal) arg20.view (arg20.view.writes (Elt Ideal) f L20) inb_S128x128_S128x128_0_0
  refine (congrFun e _).trans ?_
  refine (read_of_allAt _ f L20 _ _ (D.cov20 _ (Nat.zero_le _) h.isLt) (D.at20 _ p.isLt)).trans ?_
  unfold G20
  exact dif_pos ⟨h.isLt, p.isLt⟩
end Out

/-- A plane of the scaled inputs, stored at its place. -/
theorem tile16 (dxf : Fin 64 → Fin 112 → EReal) (g : Fin 14) (w : Vec Ideal S1x64x8 .f32) (hw : ∀ p (i : Fin 8), w (ix3 0 p i) = dxf p (hd g i)) (q : Fin 14) (p : Fin 64) (i : Fin 8) :
    View.TileAt (Val := Elt Ideal) (S := S14x64x128) (e := .f32) (ix3 q p ⟨i.val, by omega⟩) ![g.val, 0, 0] S1x64x8.size w (dxf p (hd q i)) := by
  intro x hx
  have a0 : q.val = g.val + (x 0).val := hx 0
  have a1 : p.val = 0 + (x 1).val := hx 1
  have a2 : i.val = 0 + (x 2).val := hx 2
  have x0 : (x 0).val < 1 := (x 0).isLt
  have e : x = ix3 0 (x 1) (x 2) := by
    funext a; fin_cases a
    · exact Fin.ext (by show (x 0).val = 0; omega)
    · rfl
    · rfl
  rw [e]
  refine (hw (x 1) (x 2)).trans ?_
  have e0 : g = q := Fin.ext (by omega)
  have e1 : x 1 = p := Fin.ext (by omega)
  have e2 : x 2 = i := Fin.ext (by omega)
  rw [e0, e1, e2]

theorem planes_list (dxf : Fin 64 → Fin 112 → EReal) (w0 w1 w2 w3 w4 w5 w6 w7 w8 w9 w10 w11 w12 w13 : Vec Ideal S1x64x8 .f32)
    (h0 : ∀ p (i : Fin 8), w0 (ix3 0 p i) = dxf p (hd 0 i))
    (h1 : ∀ p (i : Fin 8), w1 (ix3 0 p i) = dxf p (hd 1 i))
    (h2 : ∀ p (i : Fin 8), w2 (ix3 0 p i) = dxf p (hd 2 i))
    (h3 : ∀ p (i : Fin 8), w3 (ix3 0 p i) = dxf p (hd 3 i))
    (h4 : ∀ p (i : Fin 8), w4 (ix3 0 p i) = dxf p (hd 4 i))
    (h5 : ∀ p (i : Fin 8), w5 (ix3 0 p i) = dxf p (hd 5 i))
    (h6 : ∀ p (i : Fin 8), w6 (ix3 0 p i) = dxf p (hd 6 i))
    (h7 : ∀ p (i : Fin 8), w7 (ix3 0 p i) = dxf p (hd 7 i))
    (h8 : ∀ p (i : Fin 8), w8 (ix3 0 p i) = dxf p (hd 8 i))
    (h9 : ∀ p (i : Fin 8), w9 (ix3 0 p i) = dxf p (hd 9 i))
    (h10 : ∀ p (i : Fin 8), w10 (ix3 0 p i) = dxf p (hd 10 i))
    (h11 : ∀ p (i : Fin 8), w11 (ix3 0 p i) = dxf p (hd 11 i))
    (h12 : ∀ p (i : Fin 8), w12 (ix3 0 p i) = dxf p (hd 12 i))
    (h13 : ∀ p (i : Fin 8), w13 (ix3 0 p i) = dxf p (hd 13 i))
    (arg16 : Memref sig .tc .vmem S14x64x128 .f32) (f : BufTy.Contents (Elt Ideal) arg16.view.ty) (q : Fin 14) (p : Fin 64) (i : Fin 8) :
    arg16.view.read (Elt Ideal) (arg16.view.writes (Elt Ideal) f [⟨Rect.unit (s := S14x64x128) ![13, 0, 0] S1x64x8.size inb_S14x64x128_S1x64x8_13_0_0, w13⟩,
      ⟨Rect.unit (s := S14x64x128) ![12, 0, 0] S1x64x8.size inb_S14x64x128_S1x64x8_12_0_0, w12⟩,
      ⟨Rect.unit (s := S14x64x128) ![11, 0, 0] S1x64x8.size inb_S14x64x128_S1x64x8_11_0_0, w11⟩,
      ⟨Rect.unit (s := S14x64x128) ![10, 0, 0] S1x64x8.size inb_S14x64x128_S1x64x8_10_0_0, w10⟩,
      ⟨Rect.unit (s := S14x64x128) ![9, 0, 0] S1x64x8.size inb_S14x64x128_S1x64x8_9_0_0, w9⟩,
      ⟨Rect.unit (s := S14x64x128) ![8, 0, 0] S1x64x8.size inb_S14x64x128_S1x64x8_8_0_0, w8⟩,
      ⟨Rect.unit (s := S14x64x128) ![7, 0, 0] S1x64x8.size inb_S14x64x128_S1x64x8_7_0_0, w7⟩,
      ⟨Rect.unit (s := S14x64x128) ![6, 0, 0] S1x64x8.size inb_S14x64x128_S1x64x8_6_0_0, w6⟩,
      ⟨Rect.unit (s := S14x64x128) ![5, 0, 0] S1x64x8.size inb_S14x64x128_S1x64x8_5_0_0, w5⟩,
      ⟨Rect.unit (s := S14x64x128) ![4, 0, 0] S1x64x8.size inb_S14x64x128_S1x64x8_4_0_0, w4⟩,
      ⟨Rect.unit (s := S14x64x128) ![3, 0, 0] S1x64x8.size inb_S14x64x128_S1x64x8_3_0_0, w3⟩,
      ⟨Rect.unit (s := S14x64x128) ![2, 0, 0] S1x64x8.size inb_S14x64x128_S1x64x8_2_0_0, w2⟩,
      ⟨Rect.unit (s := S14x64x128) ![1, 0, 0] S1x64x8.size inb_S14x64x128_S1x64x8_1_0_0, w1⟩,
      ⟨Rect.unit (s := S14x64x128) ![0, 0, 0] S1x64x8.size inb_S14x64x128_S1x64x8_0_0_0, w0⟩]) (ix3 q p ⟨i.val, by omega⟩) = dxf p (hd q i) := by
  refine read_of_allAt _ f _ _ _ ?_ ?_
  · have hm : ∀ (g : Fin 14) (inb : ∀ a, (![g.val, 0, 0] : Fin 3 → ℕ) a + S1x64x8.size a ≤ S14x64x128.size a), q = g → (ix3 q p ⟨i.val, by omega⟩ : S14x64x128.Idx) ∈ (Rect.unit (s := S14x64x128) ![g.val, 0, 0] S1x64x8.size inb).set := by
      intro g inb hg
      subst hg
      refine mem_unit _ _ inb _ fun a => ?_
      fin_cases a
      · exact ⟨le_refl _, Nat.lt_succ_self _⟩
      · exact ⟨Nat.zero_le _, by show p.val < 0 + 64; omega⟩
      · exact ⟨Nat.zero_le _, by show i.val < 0 + 8; omega⟩
    simp only [List.mem_cons, List.not_mem_nil, or_false, exists_eq_or_imp, exists_eq_left]
    obtain ⟨g, rfl⟩ : ∃ g, g = q := ⟨q, rfl⟩
    revert hm
    fin_cases g <;> intro hm
    · exact .inr (.inr (.inr (.inr (.inr (.inr (.inr (.inr (.inr (.inr (.inr (.inr (.inr (hm 0 inb_S14x64x128_S1x64x8_0_0_0 rfl)))))))))))))
    · exact .inr (.inr (.inr (.inr (.inr (.inr (.inr (.inr (.inr (.inr (.inr (.inr (.inl (hm 1 inb_S14x64x128_S1x64x8_1_0_0 rfl)))))))))))))
    · exact .inr (.inr (.inr (.inr (.inr (.inr (.inr (.inr (.inr (.inr (.inr (.inl (hm 2 inb_S14x64x128_S1x64x8_2_0_0 rfl))))))))))))
    · exact .inr (.inr (.inr (.inr (.inr (.inr (.inr (.inr (.inr (.inr (.inl (hm 3 inb_S14x64x128_S1x64x8_3_0_0 rfl)))))))))))
    · exact .inr (.inr (.inr (.inr (.inr (.inr (.inr (.inr (.inr (.inl (hm 4 inb_S14x64x128_S1x64x8_4_0_0 rfl))))))))))
    · exact .inr (.inr (.inr (.inr (.inr (.inr (.inr (.inr (.inl (hm 5 inb_S14x64x128_S1x64x8_5_0_0 rfl)))))))))
    · exact .inr (.inr (.inr (.inr (.inr (.inr (.inr (.inl (hm 6 inb_S14x64x128_S1x64x8_6_0_0 rfl))))))))
    · exact .inr (.inr (.inr (.inr (.inr (.inr (.inl (hm 7 inb_S14x64x128_S1x64x8_7_0_0 rfl)))))))
    · exact .inr (.inr (.inr (.inr (.inr (.inl (hm 8 inb_S14x64x128_S1x64x8_8_0_0 rfl))))))
    · exact .inr (.inr (.inr (.inr (.inl (hm 9 inb_S14x64x128_S1x64x8_9_0_0 rfl)))))
    · exact .inr (.inr (.inr (.inl (hm 10 inb_S14x64x128_S1x64x8_10_0_0 rfl))))
    · exact .inr (.inr (.inl (hm 11 inb_S14x64x128_S1x64x8_11_0_0 rfl)))
    · exact .inr (.inl (hm 12 inb_S14x64x128_S1x64x8_12_0_0 rfl))
    · exact .inl (hm 13 inb_S14x64x128_S1x64x8_13_0_0 rfl)
  · refine View.allAt_cons_unit _ _ _ _ _ (tile16 dxf 13 w13 h13 q p i) ?_
    refine View.allAt_cons_unit _ _ _ _ _ (tile16 dxf 12 w12 h12 q p i) ?_
    refine View.allAt_cons_unit _ _ _ _ _ (tile16 dxf 11 w11 h11 q p i) ?_
    refine View.allAt_cons_unit _ _ _ _ _ (tile16 dxf 10 w10 h10 q p i) ?_
    refine View.allAt_cons_unit _ _ _ _ _ (tile16 dxf 9 w9 h9 q p i) ?_
    refine View.allAt_cons_unit _ _ _ _ _ (tile16 dxf 8 w8 h8 q p i) ?_
    refine View.allAt_cons_unit _ _ _ _ _ (tile16 dxf 7 w7 h7 q p i) ?_
    refine View.allAt_cons_unit _ _ _ _ _ (tile16 dxf 6 w6 h6 q p i) ?_
    refine View.allAt_cons_unit _ _ _ _ _ (tile16 dxf 5 w5 h5 q p i) ?_
    refine View.allAt_cons_unit _ _ _ _ _ (tile16 dxf 4 w4 h4 q p i) ?_
    refine View.allAt_cons_unit _ _ _ _ _ (tile16 dxf 3 w3 h3 q p i) ?_
    refine View.allAt_cons_unit _ _ _ _ _ (tile16 dxf 2 w2 h2 q p i) ?_
    refine View.allAt_cons_unit _ _ _ _ _ (tile16 dxf 1 w1 h1 q p i) ?_
    refine View.allAt_cons_unit _ _ _ _ _ (tile16 dxf 0 w0 h0 q p i) ?_
    exact View.allAt_nil _ _

/-- The loops find the decay and the scaled inputs of this grid point's row. -/
theorem loop_in (i : grid0.Coords) (arg6 : Memref sig .tc .vmem S1x64x112 .bf16) (harg6 : arg6.IsWhole) (arg7 : Memref sig .tc .vmem S1x2x128 .bf16) (harg7 : arg7.IsWhole) (arg8 : Memref sig .tc .vmem S1x2x128 .bf16) (harg8 : arg8.IsWhole) (arg9 : Memref sig .tc .vmem S1x112x128 .f32) (harg9 : arg9.IsWhole) (arg10 : Memref sig .tc .vmem S1x112x64x128 .fp8e4m3) (harg10 : arg10.IsWhole)
    (arg16 : Memref sig .tc .vmem S14x64x128 .f32) (arg17 : Memref sig .tc .vmem S128x8 .f32)
    (x4 : Vec Ideal S1x64x112 .bf16) (x5 x6 : Vec Ideal S1x2x128 .bf16) (x7 : Vec Ideal S1x112x128 .f32) (x8 : Vec Ideal S1x112x64x128 .fp8e4m3)
    (v4 v6 : Vec Ideal S1x112 .f32) (d14 d15 : Vec Ideal S40x112 .f32) (h4 : ∀ h, v4 (ix2 0 h) = d14 (ix2 (i 0) h)) (h6 : ∀ h, v6 (ix2 0 h) = d15 (ix2 (i 0) h))
    (xv : Vec Ideal S1x64x112 .bf16) (hxv : xv = x4) (f14 : BufTy.Contents (Elt Ideal) arg16.view.ty) (f15 : BufTy.Contents (Elt Ideal) arg17.view.ty) :
    LoopIn arg9 arg10 arg16 arg17
      (arg7.view.readAt (Elt Ideal) (Rect.unit (s := S1x2x128) ![0, 0, 0] S1x2x128.size inb_S1x2x128_S1x2x128_0_0_0).toLoadRect (harg7.unread x5)) (arg8.view.readAt (Elt Ideal) (Rect.unit (s := S1x2x128) ![0, 0, 0] S1x2x128.size inb_S1x2x128_S1x2x128_0_0_0).toLoadRect (harg8.unread x6))
      (iota .tc S8x128 32 [1] iota_S8x128_d1_w32) (iota .tc S8x128 32 [0] iota_S8x128_d0_w32)
      (harg9.unread x7) (harg10.unread x8)
      (arg16.view.writes (Elt Ideal) f14 [⟨Rect.unit (s := S14x64x128) ![13, 0, 0] S1x64x8.size inb_S14x64x128_S1x64x8_13_0_0, k0_pay157 (k0_pay142 v4 xv)⟩,
      ⟨Rect.unit (s := S14x64x128) ![12, 0, 0] S1x64x8.size inb_S14x64x128_S1x64x8_12_0_0, k0_pay156 (k0_pay155 (k0_pay142 v4 xv))⟩,
      ⟨Rect.unit (s := S14x64x128) ![11, 0, 0] S1x64x8.size inb_S14x64x128_S1x64x8_11_0_0, k0_pay154 (k0_pay142 v4 xv)⟩,
      ⟨Rect.unit (s := S14x64x128) ![10, 0, 0] S1x64x8.size inb_S14x64x128_S1x64x8_10_0_0, k0_pay153 (k0_pay142 v4 xv)⟩,
      ⟨Rect.unit (s := S14x64x128) ![9, 0, 0] S1x64x8.size inb_S14x64x128_S1x64x8_9_0_0, k0_pay152 (k0_pay142 v4 xv)⟩,
      ⟨Rect.unit (s := S14x64x128) ![8, 0, 0] S1x64x8.size inb_S14x64x128_S1x64x8_8_0_0, k0_pay151 (k0_pay142 v4 xv)⟩,
      ⟨Rect.unit (s := S14x64x128) ![7, 0, 0] S1x64x8.size inb_S14x64x128_S1x64x8_7_0_0, k0_pay150 (k0_pay142 v4 xv)⟩,
      ⟨Rect.unit (s := S14x64x128) ![6, 0, 0] S1x64x8.size inb_S14x64x128_S1x64x8_6_0_0, k0_pay149 (k0_pay142 v4 xv)⟩,
      ⟨Rect.unit (s := S14x64x128) ![5, 0, 0] S1x64x8.size inb_S14x64x128_S1x64x8_5_0_0, k0_pay148 (k0_pay142 v4 xv)⟩,
      ⟨Rect.unit (s := S14x64x128) ![4, 0, 0] S1x64x8.size inb_S14x64x128_S1x64x8_4_0_0, k0_pay147 v4 xv⟩,
      ⟨Rect.unit (s := S14x64x128) ![3, 0, 0] S1x64x8.size inb_S14x64x128_S1x64x8_3_0_0, k0_pay146 v4 xv⟩,
      ⟨Rect.unit (s := S14x64x128) ![2, 0, 0] S1x64x8.size inb_S14x64x128_S1x64x8_2_0_0, k0_pay145 v4 xv⟩,
      ⟨Rect.unit (s := S14x64x128) ![1, 0, 0] S1x64x8.size inb_S14x64x128_S1x64x8_1_0_0, k0_pay144 v4 xv⟩,
      ⟨Rect.unit (s := S14x64x128) ![0, 0, 0] S1x64x8.size inb_S14x64x128_S1x64x8_0_0_0, k0_pay143 v4 xv⟩])
      (arg17.view.writes (Elt Ideal) f15 [⟨Rect.unit (s := S128x8) ![0, 0] S128x8.size inb_S128x8_S128x8_0_0, k0_pay158 v6⟩])
      x5 x6 x7 x8 (fun h => d15 (ix2 (i 0) h)) (fun p h => d14 (ix2 (i 0) h) * x4 (ix3 0 p h)) where
  h76 := (View.readAt_full (Val := Elt Ideal) _ _ _).trans (harg7.read_unread _)
  h79 := (View.readAt_full (Val := Elt Ideal) _ _ _).trans (harg8.read_unread _)
  h82 i l := by pointwise []
  h83 i l := by pointwise []
  h9 := harg9.read_unread _
  h10 := harg10.read_unread _
  h16 := by
    subst hxv
    have hv : ∀ p h, k0_pay142 (F := Ideal) v4 xv (ix2 p h) = d14 (ix2 (i 0) h) * xv (ix3 0 p h) := by
      intro p h
      rw [← h4]
      pointwise [k0_pay142, k0_pay141]
    refine planes_list (fun p h => d14 (ix2 (i 0) h) * xv (ix3 0 p h)) _ _ _ _ _ _ _ _ _ _ _ _ _ _ ?_ ?_ ?_ ?_ ?_ ?_ ?_ ?_ ?_ ?_ ?_ ?_ ?_ ?_ arg16 f14
    · intro p i; refine Eq.trans ?_ (hv p (hd 0 i)); (pointwise [k0_pay143]); exact congrArg (fun k => k0_pay142 (F := Ideal) v4 xv (ix2 p k)) (Fin.ext (by show i.val = 8 * 0 + i.val; omega))
    · intro p i; refine Eq.trans ?_ (hv p (hd 1 i)); (pointwise [k0_pay144]) <;> rfl
    · intro p i; refine Eq.trans ?_ (hv p (hd 2 i)); (pointwise [k0_pay145]) <;> rfl
    · intro p i; refine Eq.trans ?_ (hv p (hd 3 i)); (pointwise [k0_pay146]) <;> rfl
    · intro p i; refine Eq.trans ?_ (hv p (hd 4 i)); (pointwise [k0_pay147]) <;> rfl
    · intro p i; refine Eq.trans ?_ (hv p (hd 5 i)); (pointwise [k0_pay148]) <;> rfl
    · intro p i; refine Eq.trans ?_ (hv p (hd 6 i)); (pointwise [k0_pay149]) <;> rfl
    · intro p i; refine Eq.trans ?_ (hv p (hd 7 i)); (pointwise [k0_pay150]) <;> rfl
    · intro p i; refine Eq.trans ?_ (hv p (hd 8 i)); (pointwise [k0_pay151]) <;> rfl
    · intro p i; refine Eq.trans ?_ (hv p (hd 9 i)); (pointwise [k0_pay152]) <;> rfl
    · intro p i; refine Eq.trans ?_ (hv p (hd 10 i)); (pointwise [k0_pay153]) <;> rfl
    · intro p i; refine Eq.trans ?_ (hv p (hd 11 i)); (pointwise [k0_pay154]) <;> rfl
    · intro p i; refine Eq.trans ?_ (hv p (hd 12 i)); (pointwise [k0_pay156, k0_pay155]) <;> rfl
    · intro p i; refine Eq.trans ?_ (hv p (hd 13 i)); (pointwise [k0_pay157]) <;> rfl
  h17 h := by
    rw [View.read_writes_full]
    refine Eq.trans ?_ (h6 h)
    pointwise [k0_pay158]

/-- The row of outputs. -/
def yV (x3 : Vec Ideal S1x112 .f32) (x4 : Vec Ideal S1x64x112 .bf16) (x5 x6 : Vec Ideal S1x2x128 .bf16) (x7 : Vec Ideal S1x112x128 .f32) (x8 : Vec Ideal S1x112x64x128 .fp8e4m3) (dec : Fin 112 → EReal) (dxf : Fin 64 → Fin 112 → EReal) : S1x64x112.Idx → EReal := fun y =>
  dec (y 2) * yRow x6 x7 x8 (y 2) (y 1) + dxf (y 1) (y 2) * (∑ n : Fin 128, x5 (ix3 0 (grp (y 2)) n) * x6 (ix3 0 (grp (y 2)) n)) + x3 (ix2 0 (y 2)) * x4 (ix3 0 (y 1) (y 2))

/-- The sums of the products of the two projections, one per group. -/
theorem bc_at (x5 x6 : Vec Ideal S1x2x128 .bf16) (g : Fin 2) : k0_pay165 (F := Ideal) x5 x6 (ix2 g 0) = ∑ n : Fin 128, x5 (ix3 0 g n) * x6 (ix3 0 g n) := by
  pointwise [k0_pay165, k0_pay159, k0_pay160]

/-- The first group's sum, under its heads. -/
theorem bc0_at (v92 : FVec Ideal S2x1 .f32) (h : Fin 112) : k0_pay166 v92 (iota .tc S1x112 32 [1] iota_S1x112_d1_w32) (ix2 0 h) = if h.val < 56 then v92 (ix2 0 0) else 0 := by
  pointwise [k0_pay166]
  refine if_congr ?_ rfl rfl
  revert h; decide +kernel

theorem y_raw (v6 : Vec Ideal S1x112 .f32) (v9 v11 : FVec Ideal S64x112 .f32) (v92 : FVec Ideal S2x1 .f32) (v124 : FVec Ideal S1x112 .f32) (v155 : Vec Ideal S128x128 .f32) (v163 : Vec Ideal S1x112 .f32) (p : Fin 64) (h : Fin 112) :
    k0_pay1 v6 v9 v11 v92 (iota .tc S1x112 32 [1] iota_S1x112_d1_w32) v124 56#32 (k0_pay167 (iota .tc S1x112 32 [1] iota_S1x112_d1_w32)) (k0_pay168 (iota .tc S1x112 32 [1] iota_S1x112_d1_w32)) k0_pay169 v155 v163 (ix3 0 p h)
      = v6 (ix2 0 h) * v155 (ix2 ⟨h.val, by omega⟩ ⟨p.val, by omega⟩) + v11 (ix2 p h) * (if h.val < 56 then v124 (ix2 0 h) else v92 (ix2 1 0)) + v163 (ix2 0 h) * v9 (ix2 p h) := by
  have hm : ∀ c : Prop, ∀ _ : Decidable c, (c ↔ ¬h.val < 56) → (if c then v92 (ix2 1 0) else v124 (ix2 0 h)) = if h.val < 56 then v124 (ix2 0 h) else v92 (ix2 1 0) := by
    intro c _ hc
    by_cases hh : h.val < 56
    · rw [if_pos hh, if_neg (fun a => hc.1 a hh)]
    · rw [if_neg hh, if_pos (hc.2 hh)]
  pointwise [k0_pay1, k0_pay167, k0_pay168, k0_pay169]
  refine congrArg₂ _ (congrArg₂ _ rfl (congrArg₂ _ rfl (hm _ _ ?_))) rfl
  clear hm
  revert h; decide +kernel

/-- The row of outputs the grid point stores. -/
theorem y_val (i : Fin 40) (x3 : Vec Ideal S1x112 .f32) (x4 : Vec Ideal S1x64x112 .bf16) (x5 x6 : Vec Ideal S1x2x128 .bf16) (x7 : Vec Ideal S1x112x128 .f32) (x8 : Vec Ideal S1x112x64x128 .fp8e4m3)
    (v4 v6 : Vec Ideal S1x112 .f32) (d14 d15 : Vec Ideal S40x112 .f32) (h4 : ∀ h, v4 (ix2 0 h) = d14 (ix2 i h)) (h6 : ∀ h, v6 (ix2 0 h) = d15 (ix2 i h))
    (xv : Vec Ideal S1x64x112 .bf16) (hxv : xv = x4) (b c : Vec Ideal S1x2x128 .bf16) (hb : b = x5) (hc : c = x6)
    (v155 : Vec Ideal S128x128 .f32) (h20 : ∀ (h : Fin 112) (p : Fin 64), v155 (ix2 ⟨h.val, by omega⟩ ⟨p.val, by omega⟩) = yRow x6 x7 x8 h p) (v163 : Vec Ideal S1x112 .f32) (h3 : v163 = x3) :
    k0_pay1 v6 (k0_pay141 xv) (k0_pay142 v4 xv) (k0_pay165 b c) (iota .tc S1x112 32 [1] iota_S1x112_d1_w32) (k0_pay166 (k0_pay165 b c) (iota .tc S1x112 32 [1] iota_S1x112_d1_w32)) 56#32 (k0_pay167 (iota .tc S1x112 32 [1] iota_S1x112_d1_w32)) (k0_pay168 (iota .tc S1x112 32 [1] iota_S1x112_d1_w32)) k0_pay169 v155 v163
      = yV x3 x4 x5 x6 x7 x8 (fun h => d15 (ix2 i h)) (fun p h => d14 (ix2 i h) * x4 (ix3 0 p h)) := by
  subst hxv hb hc h3
  funext y
  obtain ⟨p, h, rfl⟩ : ∃ (p : Fin 64) (h : Fin 112), y = ix3 0 p h := by
    have y0 : (y 0).val < 1 := (y 0).isLt
    refine ⟨y 1, y 2, ?_⟩
    funext a; fin_cases a
    · exact Fin.ext (by show (y 0).val = 0; omega)
    · rfl
    · rfl
  refine (y_raw v6 _ _ _ _ v155 v163 p h).trans ?_
  have e11 : k0_pay142 (F := Ideal) v4 xv (ix2 p h) = d14 (ix2 i h) * xv (ix3 0 p h) := by rw [← h4]; pointwise [k0_pay142, k0_pay141]
  have e9 : k0_pay141 (F := Ideal) xv (ix2 p h) = xv (ix3 0 p h) := by pointwise [k0_pay141]
  have e1 : (if h.val < 56 then k0_pay166 (k0_pay165 (F := Ideal) b c) (iota .tc S1x112 32 [1] iota_S1x112_d1_w32) (ix2 0 h) else k0_pay165 (F := Ideal) b c (ix2 1 0)) = ∑ n : Fin 128, b (ix3 0 (grp h) n) * c (ix3 0 (grp h) n) := by
    rw [bc0_at]
    by_cases hh : h.val < 56
    · have e : grp h = 0 := Fin.ext (by show h.val / 56 = 0; omega)
      rw [if_pos hh, if_pos hh, bc_at, e]
    · have e : grp h = 1 := Fin.ext (by show h.val / 56 = 1; omega)
      rw [if_neg hh, bc_at, e]
  rw [h6, h20, e11, e9, e1]
  rfl

end Cert.KernelIdeal.Run
-- ==== Proof.ValBody.lean ====
/- One grid point over the exact values: the blocks it leaves are named. -/
module

public import proofs.«01_k».proof.Proof.IdealKit
public import proofs.«01_k».proof.Proof.ValOut

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

local notation "𝕄" => MT nD τ sig Unit (Elt Ideal) ℕ (UR sig nD τ) ℕ

/-- The row of the held step sizes that a grid point loads. -/
theorem heldRow_at (i : grid0.Coords) (arg14 : Memref sig .tc .vmem S40x112 .f32) (f : BufTy.Contents (Elt Ideal) arg14.view.ty) (X : Vec Ideal S40x112 .f32) (hf : arg14.view.read (Elt Ideal) f = X) (h : Fin 112) :
    arg14.view.readAt (Elt Ideal) (Rect.unit (s := S40x112) (k0_off2 i) S1x112.size (k0_off2_inb i)).toLoadRect f (ix2 0 h) = X (ix2 (i 0) h) := by
  rw [← hf]
  show arg14.view.read (Elt Ideal) f _ = _
  congr 1; funext a
  have e := k0_off2_eq i
  fin_cases a <;> apply Fin.ext
  · show k0_off2 i 0 + 1 * 0 = (i 0).val; rw [e]; rfl
  · show k0_off2 i 1 + 1 * h.val = h.val; rw [e]; show 0 + 1 * h.val = h.val; omega

set_option maxHeartbeats 3200000 in
/-- The kernel body on whole staging buffers, the step sizes and decays either about to be stored (the first point) or held from before: the outputs and the held values come back named, the other scratch buffers at some contents. -/
theorem body_val (c : Dev nD) (i : grid0.Coords) (arg2 : Memref sig .tc .vmem S40x112 .bf16) (harg2 : arg2.IsWhole) (arg3 : Memref sig .tc .vmem S1x112 .f32) (harg3 : arg3.IsWhole) (arg4 : Memref sig .tc .vmem S1x112 .f32) (harg4 : arg4.IsWhole) (arg5 : Memref sig .tc .vmem S1x112 .f32) (harg5 : arg5.IsWhole) (arg6 : Memref sig .tc .vmem S1x64x112 .bf16) (harg6 : arg6.IsWhole) (arg7 : Memref sig .tc .vmem S1x2x128 .bf16) (harg7 : arg7.IsWhole) (arg8 : Memref sig .tc .vmem S1x2x128 .bf16) (harg8 : arg8.IsWhole) (arg9 : Memref sig .tc .vmem S1x112x128 .f32) (harg9 : arg9.IsWhole) (arg10 : Memref sig .tc .vmem S1x112x64x128 .fp8e4m3) (harg10 : arg10.IsWhole) (arg11 : Memref sig .tc .vmem S1x64x112 .bf16) (harg11 : arg11.IsWhole) (arg12 : Memref sig .tc .vmem S1x112x64x128 .fp8e4m3) (harg12 : arg12.IsWhole) (arg13 : Memref sig .tc .vmem S1x112x128 .f32) (harg13 : arg13.IsWhole) (arg14 : Memref sig .tc .vmem S40x112 .f32) (harg14 : arg14.IsWhole) (arg15 : Memref sig .tc .vmem S40x112 .f32) (harg15 : arg15.IsWhole) (arg16 : Memref sig .tc .vmem S14x64x128 .f32) (harg16 : arg16.IsWhole) (arg17 : Memref sig .tc .vmem S128x8 .f32) (harg17 : arg17.IsWhole) (arg18 : Memref sig .tc .vmem S64x128 .f32) (harg18 : arg18.IsWhole) (arg19 : Memref sig .tc .vmem S8x128 .f32) (harg19 : arg19.IsWhole) (arg20 : Memref sig .tc .vmem S128x128 .f32) (harg20 : arg20.IsWhole)
    (x0 : Vec Ideal S40x112 .bf16) (x1 : Vec Ideal S1x112 .f32) (x2 : Vec Ideal S1x112 .f32) (x3 : Vec Ideal S1x112 .f32) (x4 : Vec Ideal S1x64x112 .bf16) (x5 : Vec Ideal S1x2x128 .bf16) (x6 : Vec Ideal S1x2x128 .bf16) (x7 : Vec Ideal S1x112x128 .f32) (x8 : Vec Ideal S1x112x64x128 .fp8e4m3) (d14 d15 : Vec Ideal S40x112 .f32) (hd : cond0_0 i ∨ (d14 = k0_pay139 x0 x1 ∧ d15 = k0_pay140 x0 x1 x2)) (xt0 : TbBuf0 (F := Ideal) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare d14 ∗ owns (c : Thread nD τ) arg15 fullShare d15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (yV x3 x4 x5 x6 x7 x8 (fun h => k0_pay140 x0 x1 x2 (ix2 (i 0) h)) (fun p h => k0_pay139 x0 x1 (ix2 (i 0) h) * x4 (ix3 0 p h))) ∗ owns (c : Thread nD τ) arg12 fullShare (G12 x5 x7 x8 (fun h => k0_pay140 x0 x1 x2 (ix2 (i 0) h)) (fun p h => k0_pay139 x0 x1 (ix2 (i 0) h) * x4 (ix3 0 p h))) ∗ owns (c : Thread nD τ) arg13 fullShare (G13 x5 x7 x8 (fun h => k0_pay140 x0 x1 x2 (ix2 (i 0) h)) (fun p h => k0_pay139 x0 x1 (ix2 (i 0) h) * x4 (ix3 0 p h))) ∗ owns (c : Thread nD τ) arg14 fullShare (k0_pay139 x0 x1) ∗ owns (c : Thread nD τ) arg15 fullShare (k0_pay140 x0 x1 x2) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0) -∗ K ⟨⟩))
      ⊢ wp frame (wpE (defs₀ (F := Ideal)) Variants.none c none) E (cc0_mamba2_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc0 : cond0_0 i
  · simp only [cc0_mamba2_decode_eq_skeleton]; unfold cc0_mamba2_decode_skel
    simp only [k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    have e0 : arg2.view.readAt (Elt Ideal) (Rect.unit (s := S40x112) ![0, 0] S40x112.size inb_S40x112_S40x112_0_0).toLoadRect (harg2.unread x0) = x0 := (View.readAt_full (Val := Elt Ideal) arg2.view _ _).trans (harg2.read_unread _)
    have e1 : arg3.view.readAt (Elt Ideal) (Rect.unit (s := S1x112) ![0, 0] S1x112.size inb_S1x112_S1x112_0_0).toLoadRect (harg3.unread x1) = x1 := (View.readAt_full (Val := Elt Ideal) arg3.view _ _).trans (harg3.read_unread _)
    have e2 : arg4.view.readAt (Elt Ideal) (Rect.unit (s := S1x112) ![0, 0] S1x112.size inb_S1x112_S1x112_0_0).toLoadRect (harg4.unread x2) = x2 := (View.readAt_full (Val := Elt Ideal) arg4.view _ _).trans (harg4.read_unread _)
    have hF14 : arg14.view.read (Elt Ideal) (arg14.view.writes (Elt Ideal) (View.junk (Val := Elt Ideal) arg14.view) [⟨Rect.unit (s := S40x112) ![0, 0] S40x112.size inb_S40x112_S40x112_0_0, k0_pay139 (arg2.view.readAt (Elt Ideal) (Rect.unit (s := S40x112) ![0, 0] S40x112.size inb_S40x112_S40x112_0_0).toLoadRect (harg2.unread x0)) (arg3.view.readAt (Elt Ideal) (Rect.unit (s := S1x112) ![0, 0] S1x112.size inb_S1x112_S1x112_0_0).toLoadRect (harg3.unread x1))⟩]) = k0_pay139 x0 x1 := by
      rw [View.read_writes_full, e0, e1]
    have hF15 : arg15.view.read (Elt Ideal) (arg15.view.writes (Elt Ideal) (View.junk (Val := Elt Ideal) arg15.view) [⟨Rect.unit (s := S40x112) ![0, 0] S40x112.size inb_S40x112_S40x112_0_0, k0_pay140 (arg2.view.readAt (Elt Ideal) (Rect.unit (s := S40x112) ![0, 0] S40x112.size inb_S40x112_S40x112_0_0).toLoadRect (harg2.unread x0)) (arg3.view.readAt (Elt Ideal) (Rect.unit (s := S1x112) ![0, 0] S1x112.size inb_S1x112_S1x112_0_0).toLoadRect (harg3.unread x1)) (arg4.view.readAt (Elt Ideal) (Rect.unit (s := S1x112) ![0, 0] S1x112.size inb_S1x112_S1x112_0_0).toLoadRect (harg4.unread x2))⟩]) = k0_pay140 x0 x1 x2 := by
      rw [View.read_writes_full, e0, e1, e2]
    have h4 := fun h => heldRow_at i arg14 _ _ hF14 h
    have h6 := fun h => heldRow_at i arg15 _ _ hF15 h
    have hxv : arg6.view.readAt (Elt Ideal) (Rect.unit (s := S1x64x112) ![0, 0, 0] S1x64x112.size inb_S1x64x112_S1x64x112_0_0_0).toLoadRect (harg6.unread x4) = x4 := (View.readAt_full (Val := Elt Ideal) arg6.view _ _).trans (harg6.read_unread _)
    have h3 : arg5.view.readAt (Elt Ideal) (Rect.unit (s := S1x112) ![0, 0] S1x112.size inb_S1x112_S1x112_0_0).toLoadRect (harg5.unread x3) = x3 := (View.readAt_full (Val := Elt Ideal) arg5.view _ _).trans (harg5.read_unread _)
    have hb : arg7.view.readAt (Elt Ideal) (Rect.unit (s := S1x2x128) ![0, 0, 0] S1x2x128.size inb_S1x2x128_S1x2x128_0_0_0).toLoadRect (harg7.unread x5) = x5 := (View.readAt_full (Val := Elt Ideal) arg7.view _ _).trans (harg7.read_unread _)
    have hcc : arg8.view.readAt (Elt Ideal) (Rect.unit (s := S1x2x128) ![0, 0, 0] S1x2x128.size inb_S1x2x128_S1x2x128_0_0_0).toLoadRect (harg8.unread x6) = x6 := (View.readAt_full (Val := Elt Ideal) arg8.view _ _).trans (harg8.read_unread _)
    have HI := loop_in i arg6 harg6 arg7 harg7 arg8 harg8 arg9 harg9 arg10 harg10 arg16 arg17 x4 x5 x6 x7 x8 _ _ _ _ h4 h6 _ hxv f14 (View.junk (Val := Elt Ideal) arg17.view)
    have D1 := fun v6 v11 v60 G12 G13 G18 G19 G20 G12' G13' G18' G19' G20' => both Variants.none c none i tbM0_0 htbM0_0 arg2 harg2 arg3 harg3 arg4 harg4 arg5 harg5 arg6 harg6 arg7 harg7 arg8 harg8 harg9 harg10 arg11 harg11 arg12 harg12 arg13 harg13 arg14 harg14 arg15 harg15 harg16 harg17 arg18 harg18 arg19 harg19 arg20 harg20 v6 v11 v60 HI G12 G13 G18 G19 G20 G12' G13' G18' G19' G20'
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; refine (View.read_writes_full _ _ _ _ _).trans ?_; exact y_val (i 0) x3 x4 x5 x6 x7 x8 _ _ _ _ h4 h6 _ hxv _ _ hb hcc _ (read20 (D1 _ _ _ _ _ _ _ _ _ _ _ _ _) arg20 f18) _ h3
    isplitl [H10]
    · iexists _; isplitr; swap; · iexact H10
      ipureintro; exact read12 (D1 _ _ _ _ _ _ _ _ _ _ _ _ _) arg12 f10
    isplitl [H11]
    · iexists _; isplitr; swap; · iexact H11
      ipureintro; exact read13 (D1 _ _ _ _ _ _ _ _ _ _ _ _ _) arg13 f11
    isplitl [H12]
    · iexists _; isplitr; swap; · iexact H12
      ipureintro; exact hF14
    isplitl [H13]
    · iexists _; isplitr; swap; · iexact H13
      ipureintro; exact hF15
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexact HT0
  · simp only [cc0_mamba2_decode_eq_skeleton]; unfold cc0_mamba2_decode_skel
    simp only [k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain ⟨rfl, rfl⟩ := hd.resolve_left hc0
    sl_exec (disch := first | sl_exact hc0)
    sl_step
    have hF14 := hf12
    have hF15 := hf13
    have h4 := fun h => heldRow_at i arg14 _ _ hF14 h
    have h6 := fun h => heldRow_at i arg15 _ _ hF15 h
    have hxv : arg6.view.readAt (Elt Ideal) (Rect.unit (s := S1x64x112) ![0, 0, 0] S1x64x112.size inb_S1x64x112_S1x64x112_0_0_0).toLoadRect (harg6.unread x4) = x4 := (View.readAt_full (Val := Elt Ideal) arg6.view _ _).trans (harg6.read_unread _)
    have h3 : arg5.view.readAt (Elt Ideal) (Rect.unit (s := S1x112) ![0, 0] S1x112.size inb_S1x112_S1x112_0_0).toLoadRect (harg5.unread x3) = x3 := (View.readAt_full (Val := Elt Ideal) arg5.view _ _).trans (harg5.read_unread _)
    have hb : arg7.view.readAt (Elt Ideal) (Rect.unit (s := S1x2x128) ![0, 0, 0] S1x2x128.size inb_S1x2x128_S1x2x128_0_0_0).toLoadRect (harg7.unread x5) = x5 := (View.readAt_full (Val := Elt Ideal) arg7.view _ _).trans (harg7.read_unread _)
    have hcc : arg8.view.readAt (Elt Ideal) (Rect.unit (s := S1x2x128) ![0, 0, 0] S1x2x128.size inb_S1x2x128_S1x2x128_0_0_0).toLoadRect (harg8.unread x6) = x6 := (View.readAt_full (Val := Elt Ideal) arg8.view _ _).trans (harg8.read_unread _)
    have HI := loop_in i arg6 harg6 arg7 harg7 arg8 harg8 arg9 harg9 arg10 harg10 arg16 arg17 x4 x5 x6 x7 x8 _ _ _ _ h4 h6 _ hxv f14 (View.junk (Val := Elt Ideal) arg17.view)
    have D1 := fun v6 v11 v60 G12 G13 G18 G19 G20 G12' G13' G18' G19' G20' => both Variants.none c none i tbM0_0 htbM0_0 arg2 harg2 arg3 harg3 arg4 harg4 arg5 harg5 arg6 harg6 arg7 harg7 arg8 harg8 harg9 harg10 arg11 harg11 arg12 harg12 arg13 harg13 arg14 harg14 arg15 harg15 harg16 harg17 arg18 harg18 arg19 harg19 arg20 harg20 v6 v11 v60 HI G12 G13 G18 G19 G20 G12' G13' G18' G19' G20'
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; refine (View.read_writes_full _ _ _ _ _).trans ?_; exact y_val (i 0) x3 x4 x5 x6 x7 x8 _ _ _ _ h4 h6 _ hxv _ _ hb hcc _ (read20 (D1 _ _ _ _ _ _ _ _ _ _ _ _ _) arg20 f18) _ h3
    isplitl [H10]
    · iexists _; isplitr; swap; · iexact H10
      ipureintro; exact read12 (D1 _ _ _ _ _ _ _ _ _ _ _ _ _) arg12 f10
    isplitl [H11]
    · iexists _; isplitr; swap; · iexact H11
      ipureintro; exact read13 (D1 _ _ _ _ _ _ _ _ _ _ _ _ _) arg13 f11
    isplitl [H12]
    · iexists _; isplitr; swap; · iexact H12
      ipureintro; exact hF14
    isplitl [H13]
    · iexists _; isplitr; swap; · iexact H13
      ipureintro; exact hF15
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexact HT0

end Cert.KernelIdeal.Run

end
-- ==== Proof.ValRun.lean ====
/- The whole run over the exact values: every grid point stores the blocks named, and the step sizes the first point stores are held to the end. -/
module

public import proofs.«01_k».proof.Proof.ValBody
public import proofs.«01_k».proof.Proof.IdealReady
public import Idealize.ShloMosaic.Lib.Pipeline.ValueKit
public import Idealize.ShloMosaic.Lib.Pipeline.Covers

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.KernelIdeal.Run

local notation "𝕄" => MT nD τ sig Unit (Elt Ideal) ℕ (UR sig nD τ) ℕ

variable (m : (ℓ : Loc nD τ sig) → Buf (Elt Ideal) ℓ) (ρ : Dev nD → PrngReg)

/-- The step sizes and decays of the whole batch. -/
def D14 (c : Dev nD) : Vec Ideal S40x112 .f32 := k0_pay139 (V m c main_arg1) (V m c main_v2)
def D15 (c : Dev nD) : Vec Ideal S40x112 .f32 := k0_pay140 (V m c main_arg1) (V m c main_v2) (V m c main_v3)
abbrev decT (c : Dev nD) (i : grid0.Coords) : Fin 112 → EReal := fun h => D15 m c (ix2 (i 0) h)
abbrev dxT (c : Dev nD) (i : grid0.Coords) (x4 : Vec Ideal S1x64x112 .bf16) : Fin 64 → Fin 112 → EReal := fun p h => D14 m c (ix2 (i 0) h) * x4 (ix3 0 p h)

theorem index0 (hO : Ok m) (t : Fin (cfgM m hO).N) : (pcfg0.win (adm m hO) 0).index t = ![0, 0] := rfl
theorem index1 (hO : Ok m) (t : Fin (cfgM m hO).N) : (pcfg0.win (adm m hO) 1).index t = ![0, 0] := rfl
theorem index2 (hO : Ok m) (t : Fin (cfgM m hO).N) : (pcfg0.win (adm m hO) 2).index t = ![0, 0] := rfl

theorem iblk0 (hO : Ok m) (c : Dev nD) (t : Fin (cfgM m hO).N) : iblk m hO c 0 t = V m c main_arg1 := by
  funext y
  blk_ext [iblk]
  · exact Nat.zero_add _
  · exact Nat.zero_add _
theorem iblk1 (hO : Ok m) (c : Dev nD) (t : Fin (cfgM m hO).N) : iblk m hO c 1 t = V m c main_v2 := by
  funext y
  blk_ext [iblk]
  · rfl
  · exact Nat.zero_add _
theorem iblk2 (hO : Ok m) (c : Dev nD) (t : Fin (cfgM m hO).N) : iblk m hO c 2 t = V m c main_v3 := by
  funext y
  blk_ext [iblk]
  · rfl
  · exact Nat.zero_add _

/-- What the kernel holds before point `n`: before the first anything; afterwards the step sizes and decays, the other scratch buffers at anything. -/
def PhiV (c : Dev nD) : ℕ → sProp 𝕄
  | 0 => iprop(Pipeline.ΦA spec0 c ∗ Pipeline.ΦT pre0 (tbl m) c)
  | _ + 1 => iprop(iprop(iprop(owns (c : Thread nD τ) scM0_0 fullShare (D14 m c) ∗ owns (c : Thread nD τ) scM0_1 fullShare (D15 m c) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) ∗ Pipeline.ΦT pre0 (tbl m) c)

/-- The proof data: inputs keep their blocks, the outputs are the blocks named. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => yV (iblk m hO c 3 t) (iblk m hO c 4 t) (iblk m hO c 5 t) (iblk m hO c 6 t) (iblk m hO c 7 t) (iblk m hO c 8 t) (decT m c (grid0.coords t)) (dxT m c (grid0.coords t) (iblk m hO c 4 t))
    | ⟨10, _⟩ => G12 (iblk m hO c 5 t) (iblk m hO c 7 t) (iblk m hO c 8 t) (decT m c (grid0.coords t)) (dxT m c (grid0.coords t) (iblk m hO c 4 t))
    | ⟨11, _⟩ => G13 (iblk m hO c 5 t) (iblk m hO c 7 t) (iblk m hO c 8 t) (decT m c (grid0.coords t)) (dxT m c (grid0.coords t) (iblk m hO c 4 t))
  Φ t := PhiV m c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := rfl
theorem after0_1 (hO : Ok m) (c : Dev nD) (t : Fin (cfgM m hO).N) : (dats m hO 0 c).after 1 t = iblk m hO c 1 t := rfl
theorem after0_2 (hO : Ok m) (c : Dev nD) (t : Fin (cfgM m hO).N) : (dats m hO 0 c).after 2 t = iblk m hO c 2 t := rfl
theorem after0_3 (hO : Ok m) (c : Dev nD) (t : Fin (cfgM m hO).N) : (dats m hO 0 c).after 3 t = iblk m hO c 3 t := rfl
theorem after0_4 (hO : Ok m) (c : Dev nD) (t : Fin (cfgM m hO).N) : (dats m hO 0 c).after 4 t = iblk m hO c 4 t := rfl
theorem after0_5 (hO : Ok m) (c : Dev nD) (t : Fin (cfgM m hO).N) : (dats m hO 0 c).after 5 t = iblk m hO c 5 t := rfl
theorem after0_6 (hO : Ok m) (c : Dev nD) (t : Fin (cfgM m hO).N) : (dats m hO 0 c).after 6 t = iblk m hO c 6 t := rfl
theorem after0_7 (hO : Ok m) (c : Dev nD) (t : Fin (cfgM m hO).N) : (dats m hO 0 c).after 7 t = iblk m hO c 7 t := rfl
theorem after0_8 (hO : Ok m) (c : Dev nD) (t : Fin (cfgM m hO).N) : (dats m hO 0 c).after 8 t = iblk m hO c 8 t := rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem after0_9 (hO : Ok m) (c : Dev nD) (t : Fin (cfgM m hO).N) : (dats m hO 0 c).after 9 t = yV (iblk m hO c 3 t) (iblk m hO c 4 t) (iblk m hO c 5 t) (iblk m hO c 6 t) (iblk m hO c 7 t) (iblk m hO c 8 t) (decT m c (grid0.coords t)) (dxT m c (grid0.coords t) (iblk m hO c 4 t)) := rfl
theorem after0_10 (hO : Ok m) (c : Dev nD) (t : Fin (cfgM m hO).N) : (dats m hO 0 c).after 10 t = G12 (iblk m hO c 5 t) (iblk m hO c 7 t) (iblk m hO c 8 t) (decT m c (grid0.coords t)) (dxT m c (grid0.coords t) (iblk m hO c 4 t)) := rfl
theorem after0_11 (hO : Ok m) (c : Dev nD) (t : Fin (cfgM m hO).N) : (dats m hO 0 c).after 11 t = G13 (iblk m hO c 5 t) (iblk m hO c 7 t) (iblk m hO c 8 t) (decT m c (grid0.coords t)) (dxT m c (grid0.coords t) (iblk m hO c 4 t)) := rfl

/-- What the kernel holds before point `t`, opened. -/
theorem phi_open (c : Dev nD) (i : grid0.Coords) (n : ℕ) (hn : n = 0 → cond0_0 i) : PhiV m c n ⊢
    iprop(∃ d14 d15, ⌜cond0_0 i ∨ (d14 = D14 m c ∧ d15 = D15 m c)⌝ ∗ owns (c : Thread nD τ) scM0_0 fullShare d14 ∗ owns (c : Thread nD τ) scM0_1 fullShare d15 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ r, prngReg c r) ∗ tbPt0 c tbM0_0 (tbl m 0)) := by
  cases n with
  | zero =>
    show iprop(Pipeline.ΦA spec0 c ∗ Pipeline.ΦT pre0 (tbl m) c) ⊢ _
    rw [PhiT0_eq, PhiA0_eq]
    iintro ⟨⟨⟨⟨%d14, HS0⟩, ⟨%d15, HS1⟩, HS2, HS3, HS4, HS5, HS6⟩, Hg⟩, HT0⟩
    iexists d14, d15
    isplitr; · ipureintro; exact Or.inl (hn rfl)
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hg]; · iexact Hg
    iexact HT0
  | succ n =>
    unfold PhiV
    rw [PhiT0_eq]
    iintro ⟨⟨⟨HS0, HS1, HS2, HS3, HS4, HS5, HS6⟩, Hg⟩, HT0⟩
    iexists _, _
    isplitr; · ipureintro; exact Or.inr ⟨rfl, rfl⟩
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hg]; · iexact Hg
    iexact HT0

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

set_option maxHeartbeats 1600000 in
/-- The body at any point. -/
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8, after0_9, after0_10, after0_11,
    show (dats m hO 0 c).Φ t.castSucc = PhiV m c t.val from rfl, show (dats m hO 0 c).Φ t.succ = PhiV m c (t.val + 1) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HΦ' := (phi_open m c (grid0.coords t) t.val (fun h => (hcond0_0 t).2 (by rw [h]))) $$ HΦ
  icases HΦ' with ⟨%d14, %d15, %hd, HS0, HS1, HS2, HS3, HS4, HS5, HS6, Hg, HT0⟩
  have hd' : cond0_0 (grid0.coords t) ∨ (d14 = k0_pay139 (iblk m hO c 0 t) (iblk m hO c 1 t) ∧ d15 = k0_pay140 (iblk m hO c 0 t) (iblk m hO c 1 t) (iblk m hO c 2 t)) := by
    rw [iblk0, iblk1, iblk2]; exact hd
  iapply (body_val c (grid0.coords t) _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) d14 d15 hd' (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  rw [iblk0, iblk1, iblk2]
  iintro ⟨H0, H1, H2, H3, H4, H5, H6, H7, H8, H9, H10, H11, HS0, HS1, HS2, HS3, HS4, HS5, HS6, HT0⟩
  isplitl [HS0 HS1 HS2 HS3 HS4 HS5 HS6 Hg HT0]
  · unfold PhiV
    rw [PhiT0_eq]
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation. -/
theorem body_obligation (hO : Ok m) (c : Dev nD) :
    BodyObligation (dats m hO 0 c) (defs₀ (F := Ideal)) Variants.none () Set.univ := fun t => by
  rw [bigSep_W0, bigSep_W0, defs₀_row m hO]
  exact triple_restated (sound_body m hO c t) rfl .rfl fun _ => .rfl

/-- What the launch hands the kernel is what it holds before the first point. -/
theorem hin (hO : Ok m) (c : Dev nD) : iprop(Pipeline.ΦA spec0 c ∗ Pipeline.ΦT pre0 (tbl m) c) ⊢ (dats m hO 0 c).Φ 0 :=
  Idealize.SL.BI.Entails.refl _

/-- After the last point everything held is given back. -/
theorem hout (hO : Ok m) (c : Dev nD) : (dats m hO 0 c).Φ (Fin.last (cfgM m hO).N) ⊢ Pipeline.ΦA spec0 c := by
  rw [show (dats m hO 0 c).Φ (Fin.last (cfgM m hO).N) = PhiV m c 40 from rfl, PhiA0_eq]
  unfold PhiV
  iintro ⟨⟨⟨HS0, HS1, HS2, HS3, HS4, HS5, HS6⟩, Hg⟩, -⟩
  isplitl [HS0 HS1 HS2 HS3 HS4 HS5 HS6]
  · isplitl [HS0]
    · iexists _; iexact HS0
    isplitl [HS1]
    · iexists _; iexact HS1
    isplitl [HS2]; · iexact HS2
    isplitl [HS3]; · iexact HS3
    isplitl [HS4]; · iexact HS4
    isplitl [HS5]; · iexact HS5
    iexact HS6
  iexact Hg

set_option backward.isDefEq.respectTransparency.types false in
set_option maxHeartbeats 800000 in
/-- The launch: every array ends at what the grid points store. -/
theorem run_main (hO : Ok m) : θ_run defs (onTc (τ := τ) (main (F := Ideal))) (s₀ m ρ) (Pipeline.FramePost (Pipeline.pin pcfgs fun _ => adm m hO) (dats m hO) 0 (Pipeline.afterTail pcfgs (fun _ => adm m hO) (dats m hO) 0 (V0 m) [hostOps1])) :=
  Pipeline.θ_run_frameP_around_track pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

end Cert.KernelIdeal.Val

end
-- ==== Proof.ValSpec.lean ====
/- The results as formulas over the arguments read as plain functions, the pool rows already picked. -/
module

public import proofs.«01_k».proof.Proof.ValBlock

@[expose] public section

noncomputable section

namespace Cert.Spec

open Idealize.ShloMosaic Cert.KernelIdeal.Run

/-- The arguments: activations, step sizes, their bias, the logarithms of the decay rates, the two projections, the skip weights, and the batch's own rows of the pool. -/
structure Args where
  x : Fin 40 → Fin 112 → Fin 64 → EReal
  dt : Fin 40 → Fin 112 → EReal
  bias : Fin 112 → EReal
  alog : Fin 112 → EReal
  B : Fin 40 → Fin 2 → Fin 128 → EReal
  C : Fin 40 → Fin 2 → Fin 128 → EReal
  D : Fin 112 → EReal
  codes : Fin 40 → Fin 112 → Fin 128 → Fin 64 → EReal
  scale : Fin 40 → Fin 112 → Fin 128 → EReal

variable (a : Args)

/-- The step size: the softplus of the sum. -/
def delta (i : Fin 40) (h : Fin 112) : EReal :=
  max (a.dt i h + a.bias h) 0 + Ideal.log1p (Ideal.exp (0 - max (a.dt i h + a.bias h) (-(a.dt i h + a.bias h))))
/-- The decay of the state. -/
def decay (i : Fin 40) (h : Fin 112) : EReal := Ideal.exp ((0 - Ideal.exp (a.alog h)) * delta a i h)
/-- The new state. -/
def hNewR (i : Fin 40) (h : Fin 112) (n : Fin 128) (p : Fin 64) : EReal :=
  decay a i h * (a.codes i h n p * a.scale i h n) + a.B i (grp h) n * (delta a i h * a.x i h p)
/-- The output. -/
def yR (i : Fin 40) (h : Fin 112) (p : Fin 64) : EReal := (∑ n : Fin 128, hNewR a i h n p * a.C i (grp h) n) + a.D h * a.x i h p
/-- The largest magnitude of a row of the new state, times the constant. -/
def tR (i : Fin 40) (h : Fin 112) (n : Fin 128) : EReal := (Finset.univ.sup fun p : Fin 64 => hNewR a i h n p ⊔ -hNewR a i h n p) * cq
/-- The new scale. -/
def scaleR (i : Fin 40) (h : Fin 112) (n : Fin 128) : EReal := rscale (tR a i h n)
/-- The new codes. -/
def codesR (i : Fin 40) (h : Fin 112) (n : Fin 128) (p : Fin 64) : EReal := clampV (hNewR a i h n p * rinv (tR a i h n))

end Cert.Spec

end
-- ==== Proof.ValArr.lean ====
/- What the kernel's run leaves in its three results, at an index, over the arguments. -/
module

public import proofs.«01_k».proof.Proof.ValRun
public import proofs.«01_k».proof.Proof.ValSpec
public import Idealize.ShloMosaic.Lib.StableHlo.ReadAt

@[expose] public section

set_option maxRecDepth 16384

noncomputable section

namespace Cert.KernelIdeal.Val

open Idealize.ShloMosaic Idealize.ShloMosaic.TcCoe Idealize.ShloMosaic.Tactic
open Idealize.SL.Sem
open Cert.KernelIdeal.Gen Cert.KernelIdeal.Run

variable (m : (ℓ : Loc nD τ sig) → Buf (Elt Ideal) ℓ) (c : Dev nD)

/-- The pool row of a batch entry. -/
def row (i : Fin 40) : Fin 53 := ⟨min ((m ((c : Thread nD τ).loc main_arg9) : IVec S40 32) (ix1 i)).toNat 52, by omega⟩

/-- The arguments read as plain functions. -/
def args : Cert.Spec.Args where
  x i h p := (m ((c : Thread nD τ).loc main_arg0) : FVec Ideal S40x112x64 .bf16) (ix3 i h p)
  dt i h := (m ((c : Thread nD τ).loc main_arg1) : FVec Ideal S40x112 .bf16) (ix2 i h)
  bias h := (m ((c : Thread nD τ).loc main_arg2) : FVec Ideal S112 .f32) (ix1 h)
  alog h := (m ((c : Thread nD τ).loc main_arg3) : FVec Ideal S112 .f32) (ix1 h)
  B i g n := (m ((c : Thread nD τ).loc main_arg4) : FVec Ideal S40x2x128 .bf16) (ix3 i g n)
  C i g n := (m ((c : Thread nD τ).loc main_arg5) : FVec Ideal S40x2x128 .bf16) (ix3 i g n)
  D h := (m ((c : Thread nD τ).loc main_arg6) : FVec Ideal S112 .f32) (ix1 h)
  codes i h n p := (m ((c : Thread nD τ).loc main_arg7) : FVec Ideal S53x112x128x64 .fp8e4m3) (ix4 (row m c i) h n p)
  scale i h n := (m ((c : Thread nD τ).loc main_arg8) : FVec Ideal S53x112x128 .f32) (ix3 (row m c i) h n)

theorem V0_at (i : Fin 40) (p : Fin 64) (h : Fin 112) : (V m c main_v0 : FVec Ideal S40x64x112 .bf16) (ix3 i p h) = (args m c).x i h p := by
  unfold V args
  after_reads_at
theorem V1_at (i : Fin 53) (h : Fin 112) (p : Fin 64) (n : Fin 128) : (V m c main_v1 : FVec Ideal S53x112x64x128 .fp8e4m3) (ix4 i h p n) = (m ((c : Thread nD τ).loc main_arg7) : FVec Ideal S53x112x128x64 .fp8e4m3) (ix4 i h n p) := by
  unfold V
  after_reads_at
theorem V2_at (h : Fin 112) : (V m c main_v2 : FVec Ideal S1x112 .f32) (ix2 0 h) = (args m c).bias h := by
  unfold V args
  after_reads_at
theorem V3_at (h : Fin 112) : (V m c main_v3 : FVec Ideal S1x112 .f32) (ix2 0 h) = (args m c).alog h := by
  unfold V args
  after_reads_at
theorem V4_at (h : Fin 112) : (V m c main_v4 : FVec Ideal S1x112 .f32) (ix2 0 h) = (args m c).D h := by
  unfold V args
  after_reads_at

/-- The step sizes and decays the first point stores. -/
theorem D14_at (i : Fin 40) (h : Fin 112) : D14 m c (ix2 i h) = Cert.Spec.delta (args m c) i h := by
  have e2 := V2_at m c h
  have e1 : (V m c main_arg1 : FVec Ideal S40x112 .bf16) (ix2 i h) = (args m c).dt i h := congrFun (V_main_arg1 m c) _
  unfold D14 Cert.Spec.delta
  rw [← e1, ← e2]
  clear e1 e2
  generalize V m c main_arg1 = x1
  generalize V m c main_v2 = x2
  pointwise [k0_pay139, k0_pay138]
  rfl
theorem D15_at (i : Fin 40) (h : Fin 112) : D15 m c (ix2 i h) = Cert.Spec.decay (args m c) i h := by
  have e := D14_at m c i h
  have e3 := V3_at m c h
  unfold D15 Cert.Spec.decay
  rw [← e, ← e3]
  unfold D14
  clear e e3
  generalize V m c main_arg1 = x1
  generalize V m c main_v2 = x2
  generalize V m c main_v3 = x3
  pointwise [k0_pay139, k0_pay140]

/-! ## The blocks of a point -/

def k3 : Vec Ideal S1x112 .f32 := fun y => (args m c).D (y 1)
def k4 (i : Fin 40) : Vec Ideal S1x64x112 .bf16 := fun y => (args m c).x i (y 2) (y 1)
def k5 (i : Fin 40) : Vec Ideal S1x2x128 .bf16 := fun y => (args m c).B i (y 1) (y 2)
def k6 (i : Fin 40) : Vec Ideal S1x2x128 .bf16 := fun y => (args m c).C i (y 1) (y 2)
def k7 (i : Fin 40) : Vec Ideal S1x112x128 .f32 := fun y => (args m c).scale i (y 1) (y 2)
def k8 (i : Fin 40) : Vec Ideal S1x112x64x128 .fp8e4m3 := fun y => (args m c).codes i (y 1) (y 3) (y 2)

theorem coord_word (i : grid0.Coords) : (BitVec.ofNat 32 (i 0).val).toNat = (i 0).val := by
  have h : (i 0).val < 40 := (i 0).isLt
  rw [BitVec.toNat_ofNat, Nat.mod_eq_of_lt (by omega)]

theorem tbl_word (i : grid0.Coords) : (tbl m).at 0 (Rect.unit (s := S40) ![(Scalar.indexCast (BitVec.ofNat 32 (i 0).val)).toNat] S1.size (k0_off1_inb i)) numel1_S1
    = (m (((0 : Dev nD) : Thread nD τ).loc main_arg9) : IVec S40 32) (ix1 (i 0)) := by
  refine (congrFun (V_main_arg9 m 0) _).trans ?_
  congr 1
  funext a
  match a with
  | ⟨0, _⟩ => exact Fin.ext (coord_word i)

theorem place_row (hP : InPool m) (i : grid0.Coords) :
    ((tbl m).at 0 (Rect.unit (s := S40) ![(Scalar.indexCast (BitVec.ofNat 32 (i 0).val)).toNat] S1.size (k0_off1_inb i)) numel1_S1).toNat = (row m c (i 0)).val := by
  obtain rfl : c = 0 := Subsingleton.elim _ _
  have h := hP (ix1 (i 0))
  rw [tbl_word]
  show _ = min _ 52
  omega

variable (hO : Ok m)

theorem iblk3 (t : Fin (cfgM m hO).N) : iblk m hO c 3 t = k3 m c := by
  refine funext fun (y : S1x112.Idx) => ?_
  have y0 : (y 0).val < 1 := (y 0).isLt
  refine Eq.trans (b := (V m c main_v4 : FVec Ideal S1x112 .f32) (ix2 0 (y 1))) ?_ (V4_at m c (y 1))
  blk_ext [iblk]
  · rfl
  · exact Nat.zero_add _
theorem iblk4 (t : Fin (cfgM m hO).N) : iblk m hO c 4 t = k4 m c (grid0.coords t 0) := by
  refine funext fun (y : S1x64x112.Idx) => ?_
  refine Eq.trans (b := (V m c main_v0 : FVec Ideal S40x64x112 .bf16) (ix3 (grid0.coords t 0) (y 1) (y 2))) ?_ (V0_at m c _ (y 1) (y 2))
  blk_ext [iblk]
  · exact coord_word _
  · exact Nat.zero_add _
  · exact Nat.zero_add _
theorem iblk5 (t : Fin (cfgM m hO).N) : iblk m hO c 5 t = k5 m c (grid0.coords t 0) := by
  refine funext fun (y : S1x2x128.Idx) => ?_
  refine Eq.trans (b := (V m c main_arg4 : FVec Ideal S40x2x128 .bf16) (ix3 (grid0.coords t 0) (y 1) (y 2))) ?_ (congrFun (V_main_arg4 m c) _)
  blk_ext [iblk]
  · exact coord_word _
  · exact Nat.zero_add _
  · exact Nat.zero_add _
theorem iblk6 (t : Fin (cfgM m hO).N) : iblk m hO c 6 t = k6 m c (grid0.coords t 0) := by
  refine funext fun (y : S1x2x128.Idx) => ?_
  refine Eq.trans (b := (V m c main_arg5 : FVec Ideal S40x2x128 .bf16) (ix3 (grid0.coords t 0) (y 1) (y 2))) ?_ (congrFun (V_main_arg5 m c) _)
  blk_ext [iblk]
  · exact coord_word _
  · exact Nat.zero_add _
  · exact Nat.zero_add _
theorem iblk7 (hP : InPool m) (t : Fin (cfgM m hO).N) : iblk m hO c 7 t = k7 m c (grid0.coords t 0) := by
  refine funext fun (y : S1x112x128.Idx) => ?_
  refine Eq.trans (b := (V m c main_arg8 : FVec Ideal S53x112x128 .f32) (ix3 (row m c (grid0.coords t 0)) (y 1) (y 2))) ?_ (congrFun (V_main_arg8 m c) _)
  blk_ext [iblk]
  · exact place_row m c hP _
  · exact Nat.zero_add _
  · exact Nat.zero_add _
theorem iblk8 (hP : InPool m) (t : Fin (cfgM m hO).N) : iblk m hO c 8 t = k8 m c (grid0.coords t 0) := by
  refine funext fun (y : S1x112x64x128.Idx) => ?_
  refine Eq.trans (b := (V m c main_v1 : FVec Ideal S53x112x64x128 .fp8e4m3) (ix4 (row m c (grid0.coords t 0)) (y 1) (y 2) (y 3))) ?_ (V1_at m c _ (y 1) (y 2) (y 3))
  blk_ext [iblk]
  · exact place_row m c hP _
  · exact Nat.zero_add _
  · exact Nat.zero_add _
  · exact Nat.zero_add _

/-! ## The arrays after the run -/

/-- The decays and the scaled inputs of a batch entry. -/
def kdec (i : Fin 40) : Fin 112 → EReal := fun h => Cert.Spec.decay (args m c) i h
def kdx (i : Fin 40) : Fin 64 → Fin 112 → EReal := fun p h => Cert.Spec.delta (args m c) i h * (args m c).x i h p

theorem decT_eq (i : grid0.Coords) : decT m c i = kdec m c (i 0) := funext fun h => D15_at m c (i 0) h
theorem dxT_eq (i : grid0.Coords) : dxT m c i (k4 m c (i 0)) = kdx m c (i 0) := funext fun p => funext fun h => by
  exact congrArg (· * (args m c).x (i 0) h p) (D14_at m c (i 0) h)

def kY : S40x64x112.Idx → EReal := fun y => yV (k3 m c) (k4 m c (y 0)) (k5 m c (y 0)) (k6 m c (y 0)) (k7 m c (y 0)) (k8 m c (y 0)) (kdec m c (y 0)) (kdx m c (y 0)) (ix3 0 (y 1) (y 2))
def kCodes : S40x112x64x128.Idx → EReal := fun y => codesV (k5 m c (y 0)) (k7 m c (y 0)) (k8 m c (y 0)) (kdec m c (y 0)) (kdx m c (y 0)) (y 1) (y 2) (y 3)
def kScale : S40x112x128.Idx → EReal := fun y => scaleV (k5 m c (y 0)) (k7 m c (y 0)) (k8 m c (y 0)) (kdec m c (y 0)) (kdx m c (y 0)) (y 1) (y 2)

/-- The grid point at a row. -/
def mkC (i : Fin 40) : grid0.Coords := fun a => match a with | ⟨0, _⟩ => i

/-- The number of blocks along an axis, from the two extents. -/
theorem nblk_eq {sig : RefSig} {G : Pipeline.Grid} {w : Pipeline.Window sig G} (a : Fin w.shape.rank) {n s : Nat} (h1 : w.shape.size a = n) (h2 : w.size a = s) :
    w.nblk a = (n + s - 1) / s := by subst h1 h2; rfl

theorem cov9 : ((cfgM m hO).win 9).Covers := by
  refine ((cfgM m hO).win 9).covers_of_indexMap_surj rfl (fun a => (by decide : ∀ a : Fin 3, 0 < S1x64x112.size a) a) fun β =>
    ⟨mkC ⟨(β ⟨0, Nat.zero_lt_succ _⟩).val, lt_of_lt_of_eq (β ⟨0, Nat.zero_lt_succ _⟩).isLt ((nblk_eq (n := 40) (s := 1) _ rfl rfl).trans (by decide))⟩, fun a => ?_⟩
  match a with
  | ⟨0, _⟩ => exact coord_word _
  | ⟨1, h⟩ =>
    have hb : (β ⟨1, h⟩).val < 1 := lt_of_lt_of_eq (β ⟨1, h⟩).isLt ((nblk_eq (n := 64) (s := 64) _ rfl rfl).trans (by decide))
    exact (Nat.lt_one_iff.1 hb).symm
  | ⟨2, h⟩ =>
    have hb : (β ⟨2, h⟩).val < 1 := lt_of_lt_of_eq (β ⟨2, h⟩).isLt ((nblk_eq (n := 112) (s := 112) _ rfl rfl).trans (by decide))
    exact (Nat.lt_one_iff.1 hb).symm
theorem cov10 : ((cfgM m hO).win 10).Covers := by
  refine ((cfgM m hO).win 10).covers_of_indexMap_surj rfl (fun a => (by decide : ∀ a : Fin 4, 0 < S1x112x64x128.size a) a) fun β =>
    ⟨mkC ⟨(β ⟨0, Nat.zero_lt_succ _⟩).val, lt_of_lt_of_eq (β ⟨0, Nat.zero_lt_succ _⟩).isLt ((nblk_eq (n := 40) (s := 1) _ rfl rfl).trans (by decide))⟩, fun a => ?_⟩
  match a with
  | ⟨0, _⟩ => exact coord_word _
  | ⟨1, h⟩ =>
    have hb : (β ⟨1, h⟩).val < 1 := lt_of_lt_of_eq (β ⟨1, h⟩).isLt ((nblk_eq (n := 112) (s := 112) _ rfl rfl).trans (by decide))
    exact (Nat.lt_one_iff.1 hb).symm
  | ⟨2, h⟩ =>
    have hb : (β ⟨2, h⟩).val < 1 := lt_of_lt_of_eq (β ⟨2, h⟩).isLt ((nblk_eq (n := 64) (s := 64) _ rfl rfl).trans (by decide))
    exact (Nat.lt_one_iff.1 hb).symm
  | ⟨3, h⟩ =>
    have hb : (β ⟨3, h⟩).val < 1 := lt_of_lt_of_eq (β ⟨3, h⟩).isLt ((nblk_eq (n := 128) (s := 128) _ rfl rfl).trans (by decide))
    exact (Nat.lt_one_iff.1 hb).symm
theorem cov11 : ((cfgM m hO).win 11).Covers := by
  refine ((cfgM m hO).win 11).covers_of_indexMap_surj rfl (fun a => (by decide : ∀ a : Fin 3, 0 < S1x112x128.size a) a) fun β =>
    ⟨mkC ⟨(β ⟨0, Nat.zero_lt_succ _⟩).val, lt_of_lt_of_eq (β ⟨0, Nat.zero_lt_succ _⟩).isLt ((nblk_eq (n := 40) (s := 1) _ rfl rfl).trans (by decide))⟩, fun a => ?_⟩
  match a with
  | ⟨0, _⟩ => exact coord_word _
  | ⟨1, h⟩ =>
    have hb : (β ⟨1, h⟩).val < 1 := lt_of_lt_of_eq (β ⟨1, h⟩).isLt ((nblk_eq (n := 112) (s := 112) _ rfl rfl).trans (by decide))
    exact (Nat.lt_one_iff.1 hb).symm
  | ⟨2, h⟩ =>
    have hb : (β ⟨2, h⟩).val < 1 := lt_of_lt_of_eq (β ⟨2, h⟩).isLt ((nblk_eq (n := 128) (s := 128) _ rfl rfl).trans (by decide))
    exact (Nat.lt_one_iff.1 hb).symm

theorem emb9 (t : Fin (cfgM m hO).N) (y : S1x64x112.Idx) : (((cfgM m hO).win 9).blk t).view.emb y = (ix3 (grid0.coords t 0) (y 1) (y 2) : S40x64x112.Idx) := by
  have y0 : (y 0).val < 1 := (y 0).isLt
  have e0 : ((((cfgM m hO).win 9).blk t).view.emb y ⟨0, Nat.zero_lt_succ _⟩).val = (BitVec.ofNat 32 (grid0.coords t 0).val).toNat * 1 + (y 0).val := ((cfgM m hO).win 9).rect_emb_val t y ⟨0, Nat.zero_lt_succ _⟩ rfl
  funext a
  match a with
  | ⟨0, _⟩ =>
    refine Fin.ext (e0.trans ?_)
    rw [coord_word]
    show (grid0.coords t 0).val * 1 + (y 0).val = (grid0.coords t 0).val
    omega
  | ⟨1, h⟩ => exact Fin.ext ((((cfgM m hO).win 9).rect_emb_val t y ⟨1, h⟩ rfl).trans (show 0 * _ + (y 1).val = (y 1).val from by omega))
  | ⟨2, h⟩ => exact Fin.ext ((((cfgM m hO).win 9).rect_emb_val t y ⟨2, h⟩ rfl).trans (show 0 * _ + (y 2).val = (y 2).val from by omega))

theorem emb10 (t : Fin (cfgM m hO).N) (y : S1x112x64x128.Idx) : (((cfgM m hO).win 10).blk t).view.emb y = (ix4 (grid0.coords t 0) (y 1) (y 2) (y 3) : S40x112x64x128.Idx) := by
  have y0 : (y 0).val < 1 := (y 0).isLt
  have e0 : ((((cfgM m hO).win 10).blk t).view.emb y ⟨0, Nat.zero_lt_succ _⟩).val = (BitVec.ofNat 32 (grid0.coords t 0).val).toNat * 1 + (y 0).val := ((cfgM m hO).win 10).rect_emb_val t y ⟨0, Nat.zero_lt_succ _⟩ rfl
  funext a
  match a with
  | ⟨0, _⟩ =>
    refine Fin.ext (e0.trans ?_)
    rw [coord_word]
    show (grid0.coords t 0).val * 1 + (y 0).val = (grid0.coords t 0).val
    omega
  | ⟨1, h⟩ => exact Fin.ext ((((cfgM m hO).win 10).rect_emb_val t y ⟨1, h⟩ rfl).trans (show 0 * _ + (y 1).val = (y 1).val from by omega))
  | ⟨2, h⟩ => exact Fin.ext ((((cfgM m hO).win 10).rect_emb_val t y ⟨2, h⟩ rfl).trans (show 0 * _ + (y 2).val = (y 2).val from by omega))
  | ⟨3, h⟩ => exact Fin.ext ((((cfgM m hO).win 10).rect_emb_val t y ⟨3, h⟩ rfl).trans (show 0 * _ + (y 3).val = (y 3).val from by omega))

theorem emb11 (t : Fin (cfgM m hO).N) (y : S1x112x128.Idx) : (((cfgM m hO).win 11).blk t).view.emb y = (ix3 (grid0.coords t 0) (y 1) (y 2) : S40x112x128.Idx) := by
  have y0 : (y 0).val < 1 := (y 0).isLt
  have e0 : ((((cfgM m hO).win 11).blk t).view.emb y ⟨0, Nat.zero_lt_succ _⟩).val = (BitVec.ofNat 32 (grid0.coords t 0).val).toNat * 1 + (y 0).val := ((cfgM m hO).win 11).rect_emb_val t y ⟨0, Nat.zero_lt_succ _⟩ rfl
  funext a
  match a with
  | ⟨0, _⟩ =>
    refine Fin.ext (e0.trans ?_)
    rw [coord_word]
    show (grid0.coords t 0).val * 1 + (y 0).val = (grid0.coords t 0).val
    omega
  | ⟨1, h⟩ => exact Fin.ext ((((cfgM m hO).win 11).rect_emb_val t y ⟨1, h⟩ rfl).trans (show 0 * _ + (y 1).val = (y 1).val from by omega))
  | ⟨2, h⟩ => exact Fin.ext ((((cfgM m hO).win 11).rect_emb_val t y ⟨2, h⟩ rfl).trans (show 0 * _ + (y 2).val = (y 2).val from by omega))

/-- The blocks of a row, as entries of the named arrays. -/
theorem yV_row (i : Fin 40) (y : S1x64x112.Idx) :
    yV (k3 m c) (k4 m c i) (k5 m c i) (k6 m c i) (k7 m c i) (k8 m c i) (kdec m c i) (kdx m c i) y = kY m c (ix3 i (y 1) (y 2)) := rfl
theorem G12_row (i : Fin 40) (y : S1x112x64x128.Idx) :
    G12 (k5 m c i) (k7 m c i) (k8 m c i) (kdec m c i) (kdx m c i) y = kCodes m c (ix4 i (y 1) (y 2) (y 3)) := rfl
theorem G13_row (i : Fin 40) (y : S1x112x128.Idx) :
    G13 (k5 m c i) (k7 m c i) (k8 m c i) (kdec m c i) (kdx m c i) y = kScale m c (ix3 i (y 1) (y 2)) := rfl

theorem arr9 (hP : InPool m) : (dats m hO 0 c).arrAt 9 (cfgM m hO).N = kY m c := by
  refine (dats m hO 0 c).arrAt_eq_of_covers 9 _ (cov9 m hO) fun t hf y => ?_
  blk_simp
  rw [after0_9, iblk3 m c hO, iblk4 m c hO, iblk5 m c hO, iblk6 m c hO, iblk7 m c hO hP, iblk8 m c hO hP, decT_eq, dxT_eq]
  exact (yV_row m c (grid0.coords t 0) y).trans (congrArg (kY m c) (emb9 m hO t y).symm)

theorem arr10 (hP : InPool m) : (dats m hO 0 c).arrAt 10 (cfgM m hO).N = kCodes m c := by
  refine (dats m hO 0 c).arrAt_eq_of_covers 10 _ (cov10 m hO) fun t hf y => ?_
  blk_simp
  rw [after0_10, iblk4 m c hO, iblk5 m c hO, iblk7 m c hO hP, iblk8 m c hO hP, decT_eq, dxT_eq]
  exact (G12_row m c (grid0.coords t 0) y).trans (congrArg (kCodes m c) (emb10 m hO t y).symm)

theorem arr11 (hP : InPool m) : (dats m hO 0 c).arrAt 11 (cfgM m hO).N = kScale m c := by
  refine (dats m hO 0 c).arrAt_eq_of_covers 11 _ (cov11 m hO) fun t hf y => ?_
  blk_simp
  rw [after0_11, iblk4 m c hO, iblk5 m c hO, iblk7 m c hO hP, iblk8 m c hO hP, decT_eq, dxT_eq]
  exact (G13_row m c (grid0.coords t 0) y).trans (congrArg (kScale m c) (emb11 m hO t y).symm)

end Cert.KernelIdeal.Val

end
-- ==== Proof.ValRes.lean ====
/- What a run of the kernel leaves in the three result arrays, entry by entry. -/
module

public import proofs.«01_k».proof.Proof.ValArr
public import proofs.«01_k».proof.Proof.IdealFrame
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI Idealize.SL.Sem
open Cert.KernelIdeal Cert.KernelIdeal.Gen Cert.KernelIdeal.Run

variable (m : (ℓ : Loc nD τ sig) → Buf (Elt Ideal) ℓ) (ρ : Dev nD → PrngReg) (c : Dev nD) (hO : Ok m)

/-- The first two results, in the order of axes the caller sees. -/
def resY : S40x112x64.Idx → EReal := fun y => kY m c (ix3 (y 0) (y 2) (y 1))
def resCodes : S40x112x128x64.Idx → EReal := fun y => kCodes m c (ix4 (y 0) (y 1) (y 3) (y 2))

theorem arrRef_inj (hO : Ok m) : Function.Injective (Pipeline.arrRef (cfgM m hO).spec) :=
  (by decide : Function.Injective (Pipeline.arrRef spec0))

theorem host1_v6 (W : Valuation τ sig (Elt Ideal)) (i : Fin 40) (h : Fin 112) (p : Fin 64) :
    (StableHlo.after [hostOps1].flatten W (Proc.devRef .tc main_v6) : FVec Ideal S40x112x64 .bf16) (ix3 i h p) = (W (Proc.devRef .tc main_v5_0) : FVec Ideal S40x64x112 .bf16) (ix3 i p h) := by
  after_reads_at
theorem host1_v7 (W : Valuation τ sig (Elt Ideal)) (i : Fin 40) (h : Fin 112) (n : Fin 128) (p : Fin 64) :
    (StableHlo.after [hostOps1].flatten W (Proc.devRef .tc main_v7) : FVec Ideal S40x112x128x64 .fp8e4m3) (ix4 i h n p) = (W (Proc.devRef .tc main_v5_1) : FVec Ideal S40x112x64x128 .fp8e4m3) (ix4 i h p n) := by
  after_reads_at

theorem tail_v6 (hP : InPool m) : Pipeline.afterTail pcfgs (fun _ => adm m hO) (dats m hO) 0 (V0 m) [hostOps1] c main_v6 = resY m c := by
  have e := (Pipeline.withArrays_arr (cfgM m hO).spec (arrRef_inj m hO) c (V0 m c) (fun w => (dats m hO 0 c).arrAt w (cfgM m hO).N) 9).trans (arr9 m c hO hP)
  refine funext fun (y : S40x112x64.Idx) => ?_
  obtain ⟨i, h, p, rfl⟩ : ∃ (i : Fin 40) (h : Fin 112) (p : Fin 64), y = ix3 i h p := ⟨y 0, y 1, y 2, funext fun a => by match a with | ⟨0, _⟩ => rfl | ⟨1, _⟩ => rfl | ⟨2, _⟩ => rfl⟩
  exact (host1_v6 _ i h p).trans (congrFun e (ix3 i p h))
theorem tail_v7 (hP : InPool m) : Pipeline.afterTail pcfgs (fun _ => adm m hO) (dats m hO) 0 (V0 m) [hostOps1] c main_v7 = resCodes m c := by
  have e := (Pipeline.withArrays_arr (cfgM m hO).spec (arrRef_inj m hO) c (V0 m c) (fun w => (dats m hO 0 c).arrAt w (cfgM m hO).N) 10).trans (arr10 m c hO hP)
  refine funext fun (y : S40x112x128x64.Idx) => ?_
  obtain ⟨i, h, n, p, rfl⟩ : ∃ (i : Fin 40) (h : Fin 112) (n : Fin 128) (p : Fin 64), y = ix4 i h n p := ⟨y 0, y 1, y 2, y 3, funext fun a => by match a with | ⟨0, _⟩ => rfl | ⟨1, _⟩ => rfl | ⟨2, _⟩ => rfl | ⟨3, _⟩ => rfl⟩
  exact (host1_v7 _ i h n p).trans (congrFun e (ix4 i h p n))

theorem rest_v6 (hO : Ok m) : main_v6 ∈ Pipeline.restRefs sig (cfgM m hO).spec := (by decide : main_v6 ∈ Pipeline.restRefs sig spec0)
theorem rest_v7 (hO : Ok m) : main_v7 ∈ Pipeline.restRefs sig (cfgM m hO).spec := (by decide : main_v7 ∈ Pipeline.restRefs sig spec0)

/-- THE KERNEL'S RUN: the three results as named, the arguments as they were. -/
theorem run (hP : InPool m) : θ_run defs (onTc (τ := τ) (main (F := Ideal))) ⟨m, fun _ => 0, ρ⟩ (fun r => ∀ c : Dev nD,
      r.2.mem ((c.tc : Thread nD τ).loc main_v6) = resY m c
      ∧ r.2.mem ((c.tc : Thread nD τ).loc main_v7) = resCodes m c
      ∧ r.2.mem ((c.tc : Thread nD τ).loc main_v5_2) = kScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have hO := ok_of_inPool m hP
  refine θ_run_mono (θ_run_and (run_main m ρ hO) (Cert.KernelIdeal.Run.frame m ρ hO)) ?_
  rintro r ⟨h1, h2, -⟩ c
  exact ⟨((h1 c).2 main_v6 (rest_v6 m hO)).trans (tail_v6 m c hO hP), ((h1 c).2 main_v7 (rest_v7 m hO)).trans (tail_v7 m c hO hP),
    ((h1 c).1 11).trans (arr11 m c hO hP), h2 c⟩

end Cert.KernelIdeal.Val

end
-- ==== Proof.IdealFinite.lean ====
/- What the finiteness precondition says of the arguments: the row numbers lie in the pool, and the
   activations, the step sizes with their bias, and the input and output projections are real numbers. -/
module

public import proofs.«01_k».proof.Proof.IdealReady
public import proofs.«01_k».proof.Pre_finite
public import Idealize.ShloMosaic.PureOps.Ideal

@[expose] public section

noncomputable section

namespace Cert.KernelIdeal.Run

open Idealize.ShloMosaic Idealize.ShloMosaic.TcCoe Idealize.SL.Sem
open Cert.KernelIdeal.Gen

/-- An extended real that is a real number. -/
def IsReal (x : EReal) : Prop := ∃ r : ℝ, x = (r : EReal)

theorem isReal_of_abs_lt (x : EReal) (h : Ideal.cmp .olt (max x (-x)) (Ideal.ofBits .f32 0x7F800000#32) = 1#1) : IsReal x := by
  have h' : max x (-x) < Ideal.ofBits .f32 0x7F800000#32 := by
    by_contra hn
    simp [Ideal.cmp, hn] at h
  have htop : Ideal.ofBits .f32 0x7F800000#32 = ⊤ := by simp [Ideal.ofBits, Ideal.ieee]
  rw [htop] at h'
  induction x with
  | bot => simp at h'
  | top => simp at h'
  | coe r => exact ⟨r, rfl⟩

variable (m : (ℓ : Loc nD τ sig) → Buf (Elt Ideal) ℓ)

/-- The arguments a claim about values needs real. -/
structure Real_ : Prop where
  inPool : InPool m
  x : ∀ i, IsReal ((m (((0 : Dev nD) : Thread nD τ).loc main_arg0) : FVec Ideal S40x112x64 .bf16) i)
  dt : ∀ i, IsReal ((m (((0 : Dev nD) : Thread nD τ).loc main_arg1) : FVec Ideal S40x112 .bf16) i)
  bias : ∀ i, IsReal ((m (((0 : Dev nD) : Thread nD τ).loc main_arg2) : FVec Ideal S112 .f32) i)
  B : ∀ i, IsReal ((m (((0 : Dev nD) : Thread nD τ).loc main_arg4) : FVec Ideal S40x2x128 .bf16) i)
  C : ∀ i, IsReal ((m (((0 : Dev nD) : Thread nD τ).loc main_arg5) : FVec Ideal S40x2x128 .bf16) i)

theorem real_of_finite [Pre_finite.Facts] (h : ∀ c : Dev nD, Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = (fun _ => 1#1)) :
    Real_ m := by
  have e := congrFun (h 0) (Shape.Idx.first Pre_finite.Facts.h_S_)
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => word_lt _ (Host.reduce_andi_all _ _ _ _ _ h0 i),
    fun i => isReal_of_abs_lt _ (Host.reduce_andi_all _ _ _ _ _ h1 i),
    fun i => isReal_of_abs_lt _ (Host.reduce_andi_all _ _ _ _ _ h2 i),
    fun i => isReal_of_abs_lt _ (Host.reduce_andi_all _ _ _ _ _ h3 i),
    fun i => isReal_of_abs_lt _ (Host.reduce_andi_all _ _ _ _ _ h4 i),
    fun i => isReal_of_abs_lt _ (Host.reduce_andi_all _ _ _ _ _ h5 i)⟩

end Cert.KernelIdeal.Run

end
-- ==== Proof.ValEq.lean ====
/- The kernel's formulas and the reference's agree: products reordered, and the sum of the output distributed over the decay. -/
module

public import proofs.«01_k».proof.Proof.ValSpec
public import proofs.«01_k».proof.Proof.IdealFinite

@[expose] public section

noncomputable section

namespace Cert.Spec

open Idealize.ShloMosaic
open Cert.KernelIdeal.Run (grp cq clampV rscale rinv rexp kscale kinv kscale_eq kinv_eq IsReal)

theorem IsReal.add' {x y : EReal} (hx : IsReal x) (hy : IsReal y) : IsReal (x + y) := by
  obtain ⟨a, rfl⟩ := hx; obtain ⟨b, rfl⟩ := hy; exact ⟨a + b, (EReal.coe_add a b).symm⟩
theorem IsReal.mul' {x y : EReal} (hx : IsReal x) (hy : IsReal y) : IsReal (x * y) := by
  obtain ⟨a, rfl⟩ := hx; obtain ⟨b, rfl⟩ := hy; exact ⟨a * b, (EReal.coe_mul a b).symm⟩
theorem IsReal.neg' {x : EReal} (hx : IsReal x) : IsReal (-x) := by
  obtain ⟨a, rfl⟩ := hx; exact ⟨-a, (EReal.coe_neg a).symm⟩
theorem IsReal.max' {x y : EReal} (hx : IsReal x) (hy : IsReal y) : IsReal (max x y) := by
  rcases max_choice x y with h | h <;> rw [h] <;> assumption
theorem coe_max' (a b : ℝ) : ((max a b : ℝ) : EReal) = max (a : EReal) (b : EReal) := EReal.coe_strictMono.monotone.map_max
theorem isReal_zero : IsReal (0 : EReal) := ⟨0, rfl⟩

/-- The softplus's tail is real and not negative. -/
theorem tail_real (r : ℝ) : ∃ s : ℝ, 0 ≤ s ∧ Ideal.log1p (Ideal.exp (r : EReal)) = (s : EReal) := by
  refine ⟨Real.log (1 + Real.exp r), Real.log_nonneg (by linarith [Real.exp_pos r]), ?_⟩
  unfold Ideal.log1p
  rw [Ideal.exp_coe]
  have e : (1 + (Real.exp r : EReal)) = ((1 + Real.exp r : ℝ) : EReal) := by rw [EReal.coe_add]; rfl
  rw [e, Ideal.log_coe, if_neg]
  have := Real.exp_pos r
  linarith

/-- The exponential is real where its argument is not positive. -/
theorem exp_real (x : EReal) (hx : x ≤ 0) : ∃ s : ℝ, 0 ≤ s ∧ Ideal.exp x = (s : EReal) := by
  induction x with
  | bot => exact ⟨0, le_refl _, rfl⟩
  | coe r => exact ⟨Real.exp r, (Real.exp_pos r).le, rfl⟩
  | top => exact absurd hx (by simp)

/-- The exponential is never negative. -/
theorem exp_nonneg (x : EReal) : 0 ≤ Ideal.exp x := by
  induction x with
  | bot => exact le_refl _
  | coe r => exact EReal.coe_nonneg.2 (Real.exp_pos r).le
  | top => exact le_top

/-- A sum times a real factor, where one term is real. -/
theorem add_mul_real (u : EReal) (v k : ℝ) : (u + v) * k = u * k + v * k := by
  rcases lt_trichotomy k 0 with hk | rfl | hk
  · induction u with
    | bot => rw [EReal.bot_add, EReal.bot_mul_coe_of_neg hk, ← EReal.coe_mul, EReal.top_add_coe]
    | coe r => rw [← EReal.coe_add, ← EReal.coe_mul, ← EReal.coe_mul, ← EReal.coe_mul, ← EReal.coe_add, add_mul]
    | top => rw [EReal.top_add_coe, EReal.top_mul_coe_of_neg hk, EReal.bot_add]
  · simp
  · induction u with
    | bot => rw [EReal.bot_add, EReal.bot_mul_coe_of_pos hk, EReal.bot_add]
    | coe r => rw [← EReal.coe_add, ← EReal.coe_mul, ← EReal.coe_mul, ← EReal.coe_mul, ← EReal.coe_add, add_mul]
    | top => rw [EReal.top_add_coe, EReal.top_mul_coe_of_pos hk, ← EReal.coe_mul, EReal.top_add_coe]

/-- A factor that is real and not negative, distributed over a sum. -/
theorem mul_sum_real {ι : Type} (s : Finset ι) (f : ι → EReal) (d : ℝ) (hd : 0 ≤ d) : (d : EReal) * ∑ n ∈ s, f n = ∑ n ∈ s, (d : EReal) * f n := by
  classical
  induction s using Finset.induction_on with
  | empty => simp
  | insert a s ha ih => rw [Finset.sum_insert ha, Finset.sum_insert ha, EReal.left_distrib_of_nonneg_of_ne_top (EReal.coe_nonneg.2 hd) (EReal.coe_ne_top d), ih]

/-- A real factor distributed over a sum of reals. -/
theorem mul_sum_reals {ι : Type} (s : Finset ι) (f : ι → ℝ) (d : ℝ) : (d : EReal) * ∑ n ∈ s, (f n : EReal) = ∑ n ∈ s, (d : EReal) * (f n : EReal) := by
  classical
  have e : ∀ (g : ι → ℝ), ∑ n ∈ s, (g n : EReal) = ((∑ n ∈ s, g n : ℝ) : EReal) := by
    intro g
    induction s using Finset.induction_on with
    | empty => simp
    | insert a s ha ih => rw [Finset.sum_insert ha, Finset.sum_insert ha, EReal.coe_add, ih]
  have e2 : ∀ n, (d : EReal) * (f n : EReal) = ((d * f n : ℝ) : EReal) := fun n => (EReal.coe_mul _ _).symm
  simp only [e2]
  rw [e, e, ← EReal.coe_mul, Finset.mul_sum]

/-- The output's sum, the decay taken out and the input's part apart. -/
theorem sum_split (d k : ℝ) (hd : 0 ≤ d) (c s : Fin 128 → EReal) (B C : Fin 128 → ℝ) :
    (∑ n : Fin 128, ((d : EReal) * (c n * s n) + (B n : EReal) * (k : EReal)) * (C n : EReal))
      = (d : EReal) * (∑ n : Fin 128, s n * (C n : EReal) * c n) + (k : EReal) * ∑ n : Fin 128, (B n : EReal) * (C n : EReal) := by
  have e1 : ∀ n, ((d : EReal) * (c n * s n) + (B n : EReal) * (k : EReal)) * (C n : EReal)
      = (d : EReal) * (s n * (C n : EReal) * c n) + (k : EReal) * ((B n * C n : ℝ) : EReal) := by
    intro n
    rw [← EReal.coe_mul (B n) k, add_mul_real]
    congr 1
    · rw [mul_assoc, mul_comm (c n) (s n), mul_assoc (s n) (c n), mul_comm (c n) (C n : EReal), ← mul_assoc (s n)]
    · rw [← EReal.coe_mul, ← EReal.coe_mul]
      congr 1
      ring
  simp only [e1, ← EReal.coe_mul (B _) (C _)]
  rw [Finset.sum_add_distrib, mul_sum_real _ _ d hd, mul_sum_reals]

variable (a : Args)

/-- The arguments the output's equality needs real. -/
structure RealArgs : Prop where
  x : ∀ i h p, IsReal (a.x i h p)
  dt : ∀ i h, IsReal (a.dt i h)
  bias : ∀ h, IsReal (a.bias h)
  B : ∀ i g n, IsReal (a.B i g n)
  C : ∀ i g n, IsReal (a.C i g n)

variable {a}

theorem delta_real (hR : RealArgs a) (i : Fin 40) (h : Fin 112) : ∃ s : ℝ, 0 ≤ s ∧ delta a i h = (s : EReal) := by
  unfold delta
  obtain ⟨u, hu⟩ := IsReal.add' (hR.dt i h) (hR.bias h)
  rw [hu]
  have e : (0 : EReal) - max (u : EReal) (-(u : EReal)) = ((-|u| : ℝ) : EReal) := by
    rw [zero_sub, ← EReal.coe_neg, ← coe_max', ← EReal.coe_neg]; rfl
  rw [e]
  obtain ⟨s, hs, e'⟩ := tail_real (-|u|)
  refine ⟨max u 0 + s, add_nonneg (le_max_right _ _) hs, ?_⟩
  rw [e', EReal.coe_add, coe_max']; rfl

theorem decay_real (hR : RealArgs a) (i : Fin 40) (h : Fin 112) : ∃ s : ℝ, 0 ≤ s ∧ decay a i h = (s : EReal) := by
  obtain ⟨s, hs, e⟩ := delta_real hR i h
  unfold decay
  refine exp_real _ ?_
  rw [e, zero_sub, EReal.neg_mul]
  have := mul_nonneg (exp_nonneg (a.alog h)) (EReal.coe_nonneg.2 hs)
  exact EReal.neg_le.1 (by simpa using this)

/-- The output as the kernel computes it. -/
theorem y_eq (hR : RealArgs a) (i : Fin 40) (h : Fin 112) (p : Fin 64) :
    decay a i h * (∑ n : Fin 128, a.scale i h n * a.C i (grp h) n * a.codes i h n p) + delta a i h * a.x i h p * (∑ n : Fin 128, a.B i (grp h) n * a.C i (grp h) n) + a.D h * a.x i h p
      = yR a i h p := by
  unfold yR hNewR
  obtain ⟨d, hd, ed⟩ := decay_real hR i h
  obtain ⟨s, hs, es⟩ := delta_real hR i h
  obtain ⟨k, ek⟩ := IsReal.mul' ⟨s, es⟩ (hR.x i h p)
  choose B hB using fun n => hR.B i (grp h) n
  choose C hC using fun n => hR.C i (grp h) n
  rw [ed, ek]
  simp only [hB, hC]
  rw [sum_split d k hd]

/-- The scaled maximum is not negative. -/
theorem tR_nonneg (i : Fin 40) (h : Fin 112) (n : Fin 128) : 0 ≤ tR a i h n := by
  unfold tR
  refine mul_nonneg ?_ ?_
  · refine le_trans ?_ (Finset.le_sup (f := fun p : Fin 64 => hNewR a i h n p ⊔ -hNewR a i h n p) (Finset.mem_univ (0 : Fin 64)))
    show 0 ≤ max (hNewR a i h n 0) (-hNewR a i h n 0)
    rcases le_total 0 (hNewR a i h n 0) with h0 | h0
    · exact le_max_of_le_left h0
    · exact le_max_of_le_right (EReal.le_neg.1 (by simpa using h0))
  · unfold cq
    simp [Ideal.ofBits, Ideal.ieee]
    rw [← EReal.coe_mul]
    exact EReal.coe_nonneg.2 (by norm_num)

end Cert.Spec

end
-- ==== Proof.ValRef.lean ====
/- The reference's results at an index, as formulas over its arguments. -/
module

public import proofs.«01_k».proof.Proof.ValSpec
public import proofs.«01_k».proof.Proof.Gen.ReferenceIdeal.Frame
public import Idealize.ShloMosaic.Lib.Pipeline.ValueKit

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Spec
open Cert.KernelIdeal.Run (grp cq clampV rscale rinv rexp)

section Blocks
variable (x0 : Vec Ideal S40x112x64 .bf16) (x1 : Vec Ideal S40x112 .bf16) (x2 : Vec Ideal S112 .f32) (x3 : Vec Ideal S112 .f32) (x4 : Vec Ideal S40x2x128 .bf16) (x5 : Vec Ideal S40x2x128 .bf16) (x6 : Vec Ideal S112 .f32) (x7 : Vec Ideal S40x112x128x64 .fp8e4m3) (x8 : Vec Ideal S40x112x128 .f32)

/-- The blocks read as plain functions. -/
def argsOf : Args where
  x i h p := x0 (ix3 i h p)
  dt i h := x1 (ix2 i h)
  bias h := x2 (ix1 h)
  alog h := x3 (ix1 h)
  B i g n := x4 (ix3 i g n)
  C i g n := x5 (ix3 i g n)
  D h := x6 (ix1 h)
  codes i h n p := x7 (ix4 i h n p)
  scale i h n := x8 (ix3 i h n)

theorem delta_at (i : Fin 40) (h : Fin 112) : k0_pay6 x1 x2 (ix2 i h) = delta (argsOf x0 x1 x2 x3 x4 x5 x6 x7 x8) i h := by
  unfold delta argsOf
  pointwise [k0_pay6]
  rfl

theorem decay_at (i : Fin 40) (h : Fin 112) : k0_pay7 x1 x2 x3 (ix2 i h) = decay (argsOf x0 x1 x2 x3 x4 x5 x6 x7 x8) i h := by
  have e := delta_at x0 x1 x2 x3 x4 x5 x6 x7 x8 i h
  unfold decay
  rw [← e]
  unfold argsOf
  pointwise [k0_pay7]

theorem rep_at (x : Vec Ideal S40x2x128 .bf16) (i : Fin 40) (h : Fin 112) (n : Fin 128) : k0_pay8 x (ix3 i h n) = x (ix3 i (grp h) n) := by
  pointwise [k0_pay8, grp]

theorem h_at (i : Fin 40) (h : Fin 112) (n : Fin 128) (p : Fin 64) :
    k0_pay9 (k0_pay4 x7 x8) (k0_pay5 x0) (k0_pay6 x1 x2) (k0_pay7 x1 x2 x3) (k0_pay8 x4) (ix4 i h n p) = hNewR (argsOf x0 x1 x2 x3 x4 x5 x6 x7 x8) i h n p := by
  have e := delta_at x0 x1 x2 x3 x4 x5 x6 x7 x8 i h
  have e' := decay_at x0 x1 x2 x3 x4 x5 x6 x7 x8 i h
  have e'' := rep_at x4 i h n
  unfold hNewR
  rw [← e, ← e']
  generalize k0_pay6 x1 x2 = d at *
  generalize k0_pay7 x1 x2 x3 = d' at *
  generalize k0_pay8 x4 = b at *
  show _ = d' (ix2 i h) * (x7 (ix4 i h n p) * x8 (ix3 i h n)) + x4 (ix3 i (grp h) n) * (d (ix2 i h) * x0 (ix3 i h p))
  rw [← e'']
  clear e e' e''
  pointwise [k0_pay9, k0_pay4, k0_pay5]

theorem y_at (i : Fin 40) (h : Fin 112) (p : Fin 64) :
    k0_pay10 (k0_pay4 x7 x8) (k0_pay5 x0) (k0_pay6 x1 x2) (k0_pay7 x1 x2 x3) (k0_pay8 x4) x5 x6 (ix3 i h p) = yR (argsOf x0 x1 x2 x3 x4 x5 x6 x7 x8) i h p := by
  have e := fun n => h_at x0 x1 x2 x3 x4 x5 x6 x7 x8 i h n p
  have e'' := fun n => rep_at x5 i h n
  unfold yR
  simp only [← e]
  show _ = (∑ n : Fin 128, _ * x5 (ix3 i (grp h) n)) + x6 (ix1 h) * x0 (ix3 i h p)
  simp only [← e'']
  unfold k0_pay10
  generalize k0_pay9 (k0_pay4 x7 x8) (k0_pay5 x0) (k0_pay6 x1 x2) (k0_pay7 x1 x2 x3) (k0_pay8 x4) = H
  clear e e''
  pointwise [k0_pay8, k0_pay5]

/-- The largest magnitude along the last axis. -/
theorem max_at (v : FVec Ideal S40x112x128x64 .f32) (i : Fin 40) (h : Fin 112) (n : Fin 128) :
    multiReduction .maximumf [3] S40x112x128 v 0xFF800000#32 reduces_S40x112x128x64_S40x112x128 (.inl rfl) rfl (ix3 i h n)
      = Finset.univ.sup fun p : Fin 64 => v (ix4 i h n p) := by
  refine (Ideal.multiReduction_maximumf_single v _ _ _ _ _).trans ?_
  have e0 : (FloatOps.ofBits (F := Ideal) .f32 0xFF800000#32 : EReal) = ⊥ := by
    show Ideal.ofBits .f32 0xFF800000#32 = ⊥
    simp [Ideal.ofBits, Ideal.ieee]
  rw [e0]
  refine Finset.fold_congr fun p _ => ?_
  show v _ = v _
  congr 1
  funext a
  match a with
  | ⟨0, _⟩ => rfl
  | ⟨1, _⟩ => rfl
  | ⟨2, _⟩ => rfl
  | ⟨3, _⟩ => rfl

/-- A product by the constant factor. -/
theorem mul_at (M : FVec Ideal S40x112x128 .f32) (i : Fin 40) (h : Fin 112) (n : Fin 128) :
    (mulf M (broadcast S40x112x128 (Scalar.ofBits .f32 0x3B124925#32)) : FVec Ideal S40x112x128 .f32) (ix3 i h n) = M (ix3 i h n) * cq := rfl

theorem t_at (i : Fin 40) (h : Fin 112) (n : Fin 128) :
    k0_pay11 (k0_pay4 x7 x8) (k0_pay5 x0) (k0_pay6 x1 x2) (k0_pay7 x1 x2 x3) (k0_pay8 x4) (ix3 i h n) = tR (argsOf x0 x1 x2 x3 x4 x5 x6 x7 x8) i h n := by
  unfold tR k0_pay11
  refine (mul_at _ i h n).trans (congrArg (· * cq) ((max_at _ i h n).trans (Finset.sup_congr rfl fun p _ => ?_)))
  rw [← h_at x0 x1 x2 x3 x4 x5 x6 x7 x8]
  rfl

/-- A value picked where another lies between two bounds. -/
theorem mask_if (t a b u v : EReal) : Scalar.select (IntOp.andi (Ideal.cmp .oge t a) (Ideal.cmp .olt t b)) u v = if a ≤ t ∧ t < b then u else v := by
  unfold Scalar.select
  refine if_congr ?_ rfl rfl
  show IntOp.andi (Ideal.cmp .oge t a) (Ideal.cmp .olt t b) = 1#1 ↔ a ≤ t ∧ t < b
  rw [IntOp.andi_eq_one]
  unfold Ideal.cmp
  by_cases h1 : a ≤ t <;> by_cases h2 : t < b <;> simp [h1, h2]

/-- The exponent read off a quotient. -/
theorem mask_exp (T : FVec Ideal S40x112x128 .f32) (i : Fin 40) (h : Fin 112) (n : Fin 128) :
    (select (andi (cmpf .oge T (broadcast S40x112x128 (Scalar.ofBits .f32 0x00800000#32))) (cmpf .olt T (broadcast S40x112x128 (Scalar.ofBits .f32 0x7F000000#32))))
      (addf (floor (divf (log T) (log (broadcast S40x112x128 (Scalar.ofBits .f32 0x40000000#32))))) (broadcast S40x112x128 (Scalar.ofBits .f32 0x3F800000#32)))
      (broadcast S40x112x128 (Scalar.ofBits .f32 0x00000000#32)) : FVec Ideal S40x112x128 .f32) (ix3 i h n) = rexp (T (ix3 i h n)) := by
  have z : Ideal.ofBits .f32 0x00000000#32 = 0 := by simp [Ideal.ofBits, Ideal.ieee]
  have o : Ideal.ofBits .f32 0x3F800000#32 = 1 := by simp [Ideal.ofBits, Ideal.ieee]; rw [← EReal.coe_mul]; norm_num
  refine (mask_if (T (ix3 i h n)) (Ideal.ofBits .f32 0x00800000#32) (Ideal.ofBits .f32 0x7F000000#32) (Ideal.liftRound Int.floor (Ideal.div (Ideal.log (T (ix3 i h n))) (Ideal.log (Ideal.ofBits .f32 0x40000000#32))) + Ideal.ofBits .f32 0x3F800000#32) (Ideal.ofBits .f32 0x00000000#32)).trans ?_
  unfold rexp
  rw [z, o]

theorem exp_at (i : Fin 40) (h : Fin 112) (n : Fin 128) :
    k0_pay12 (k0_pay4 x7 x8) (k0_pay5 x0) (k0_pay6 x1 x2) (k0_pay7 x1 x2 x3) (k0_pay8 x4) (ix3 i h n) = rexp (tR (argsOf x0 x1 x2 x3 x4 x5 x6 x7 x8) i h n) := by
  rw [← t_at x0 x1 x2 x3 x4 x5 x6 x7 x8 i h n]
  unfold k0_pay12
  exact mask_exp _ i h n

theorem scale_at (T E : FVec Ideal S40x112x128 .f32) (i : Fin 40) (h : Fin 112) (n : Fin 128) (hE : E (ix3 i h n) = rexp (T (ix3 i h n))) :
    k0_pay2 T E (Scalar.ofBits .f32 0x7F000000#32) (ix3 i h n) = rscale (T (ix3 i h n)) := by
  unfold rscale
  rw [← hE]
  exact mask_if (T (ix3 i h n)) (Ideal.ofBits .f32 0x7F000000#32) (Ideal.ofBits .f32 0x7F800000#32) (Ideal.ofBits .f32 0x7F800000#32) (Ideal.exp2 (E (ix3 i h n)))

theorem clip_at (H : FVec Ideal S40x112x128x64 .f32) (W : FVec Ideal S40x112x128 .f32) (i : Fin 40) (h : Fin 112) (n : Fin 128) (p : Fin 64) :
    (truncf .fp8e4m3 (minimumf (broadcast S40x112x128x64 (Scalar.ofBits .f32 0x43E00000#32)) (maximumf (broadcast S40x112x128x64 (Scalar.ofBits .f32 0xC3E00000#32)) (mulf H (broadcastTo S40x112x128x64 (shapeCast S40x112x128x1 W shapeCasts_S40x112x128_S40x112x128x1) broadcasts_S40x112x128x1_S40x112x128x64)))) bitsLt_fp8e4m3_f32 : FVec Ideal S40x112x128x64 .fp8e4m3) (ix4 i h n p)
      = clampV (H (ix4 i h n p) * W (ix3 i h n)) := by
  have e : (broadcastTo S40x112x128x64 (shapeCast S40x112x128x1 W shapeCasts_S40x112x128_S40x112x128x1) broadcasts_S40x112x128x1_S40x112x128x64 : FVec Ideal S40x112x128x64 .f32) (ix4 i h n p) = W (ix3 i h n) := by
    pointwise
  rw [← e]
  rfl

theorem codes_at (H : FVec Ideal S40x112x128x64 .f32) (T E : FVec Ideal S40x112x128 .f32) (i : Fin 40) (h : Fin 112) (n : Fin 128) (p : Fin 64) (hE : E (ix3 i h n) = rexp (T (ix3 i h n))) :
    k0_pay3 H T E (Scalar.ofBits .f32 0x7F000000#32) (ix4 i h n p) = clampV (H (ix4 i h n p) * rinv (T (ix3 i h n))) := by
  have z : Ideal.ofBits .f32 0x00000000#32 = 0 := by simp [Ideal.ofBits, Ideal.ieee]
  unfold k0_pay3
  refine (clip_at H _ i h n p).trans ?_
  congr 2
  unfold rinv
  rw [← hE]
  refine (mask_if (T (ix3 i h n)) (Ideal.ofBits .f32 0x7F000000#32) (Ideal.ofBits .f32 0x7F800000#32) (Ideal.ofBits .f32 0xFF800000#32) _).trans ?_
  congr 1
  refine (mask_if (T (ix3 i h n)) (Ideal.ofBits .f32 0x7E800000#32) (Ideal.ofBits .f32 0x7F000000#32) (Ideal.ofBits .f32 0x00000000#32) (Ideal.exp2 (Ideal.ofBits .f32 0x00000000#32 - E (ix3 i h n)))).trans ?_
  rw [z]
end Blocks

end Cert.ReferenceIdeal.Val

end
-- ==== Proof.ValRefRun.lean ====
/- What a run of the reference leaves in its three results, entry by entry. -/
module

public import proofs.«01_k».proof.Proof.ValRef
public import Idealize.ShloMosaic.Lib.Claim
public import Idealize.ShloMosaic.Lib.StableHlo.ReadAt

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Spec
open Cert.KernelIdeal.Run (grp cq clampV rscale rinv rexp)

section Out
variable (x0 : Vec Ideal S40x112x64 .bf16) (x1 : Vec Ideal S40x112 .bf16) (x2 : Vec Ideal S112 .f32) (x3 : Vec Ideal S112 .f32) (x4 : Vec Ideal S40x2x128 .bf16) (x5 : Vec Ideal S40x2x128 .bf16) (x6 : Vec Ideal S112 .f32) (x7 : Vec Ideal S40x112x128x64 .fp8e4m3) (x8 : Vec Ideal S40x112x128 .f32)

theorem ld0 (X : Vec Ideal S40x112x128x64 .fp8e4m3) : View.ld X r0_0 = X := View.ld_unit_zero (by decide) _ X
theorem ld1 (X : Vec Ideal S40x112x128 .f32) : View.ld X r0_1 = X := View.ld_unit_zero (by decide) _ X
theorem ld2 (X : Vec Ideal S40x112x64 .bf16) : View.ld X r0_2 = X := View.ld_unit_zero (by decide) _ X
theorem ld3 (X : Vec Ideal S40x112 .bf16) : View.ld X r0_3 = X := View.ld_unit_zero (by decide) _ X
theorem ld4 (X : Vec Ideal S112 .f32) : View.ld X r0_4 = X := View.ld_unit_zero (by decide) _ X
theorem ld5 (X : Vec Ideal S40x2x128 .bf16) : View.ld X r0_5 = X := View.ld_unit_zero (by decide) _ X

theorem p13 : k0_pay13 x0 x1 x2 x3 x4 x5 x6 x7 x8 = k0_pay4 x7 x8 := congrArg₂ k0_pay4 (ld0 x7) (ld1 x8)
theorem p14 : k0_pay14 x0 x1 x2 x3 x4 x5 x6 x7 x8 = k0_pay5 x0 := congrArg k0_pay5 (ld2 x0)
theorem p15 : k0_pay15 x0 x1 x2 x3 x4 x5 x6 x7 x8 = k0_pay6 x1 x2 := congrArg₂ k0_pay6 (ld3 x1) (ld4 x2)
theorem p16 : k0_pay16 x0 x1 x2 x3 x4 x5 x6 x7 x8 = k0_pay7 x1 x2 x3 := by
  unfold k0_pay16
  rw [ld3, ld4, ld4]
theorem p17 : k0_pay17 x0 x1 x2 x3 x4 x5 x6 x7 x8 = k0_pay8 x4 := congrArg k0_pay8 (ld5 x4)
theorem p18 : k0_pay18 x0 x1 x2 x3 x4 x5 x6 x7 x8 = k0_pay11 (k0_pay4 x7 x8) (k0_pay5 x0) (k0_pay6 x1 x2) (k0_pay7 x1 x2 x3) (k0_pay8 x4) := by
  unfold k0_pay18
  rw [p13, p14, p15, p16, p17]
theorem p19 : k0_pay19 x0 x1 x2 x3 x4 x5 x6 x7 x8 = k0_pay12 (k0_pay4 x7 x8) (k0_pay5 x0) (k0_pay6 x1 x2) (k0_pay7 x1 x2 x3) (k0_pay8 x4) := by
  unfold k0_pay19
  rw [p13, p14, p15, p16, p17]

theorem out9_at (i : Fin 40) (h : Fin 112) (p : Fin 64) : out0_9 x0 x1 x2 x3 x4 x5 x6 x7 x8 (ix3 i h p) = yR (argsOf x0 x1 x2 x3 x4 x5 x6 x7 x8) i h p := by
  refine Eq.trans (congrFun (?_ : out0_9 x0 x1 x2 x3 x4 x5 x6 x7 x8 = k0_pay10 (k0_pay4 x7 x8) (k0_pay5 x0) (k0_pay6 x1 x2) (k0_pay7 x1 x2 x3) (k0_pay8 x4) x5 x6) _) (y_at x0 x1 x2 x3 x4 x5 x6 x7 x8 i h p)
  frame_out
  rw [p13, p14, p15, p16, p17]
theorem out10_at (i : Fin 40) (h : Fin 112) (n : Fin 128) (p : Fin 64) : out0_10 x0 x1 x2 x3 x4 x5 x6 x7 x8 (ix4 i h n p) = codesR (argsOf x0 x1 x2 x3 x4 x5 x6 x7 x8) i h n p := by
  have e : out0_10 x0 x1 x2 x3 x4 x5 x6 x7 x8 = k0_pay3 (k0_pay9 (k0_pay4 x7 x8) (k0_pay5 x0) (k0_pay6 x1 x2) (k0_pay7 x1 x2 x3) (k0_pay8 x4)) (k0_pay11 (k0_pay4 x7 x8) (k0_pay5 x0) (k0_pay6 x1 x2) (k0_pay7 x1 x2 x3) (k0_pay8 x4)) (k0_pay12 (k0_pay4 x7 x8) (k0_pay5 x0) (k0_pay6 x1 x2) (k0_pay7 x1 x2 x3) (k0_pay8 x4)) (Scalar.ofBits .f32 0x7F000000#32) := by
    frame_out
    rw [p13, p14, p15, p16, p17, p18, p19]
  have et := t_at x0 x1 x2 x3 x4 x5 x6 x7 x8 i h n
  rw [e]
  refine (codes_at _ _ _ i h n p ((exp_at x0 x1 x2 x3 x4 x5 x6 x7 x8 i h n).trans (congrArg rexp et.symm))).trans ?_
  rw [et, h_at x0 x1 x2 x3 x4 x5 x6 x7 x8]
  rfl
theorem out11_at (i : Fin 40) (h : Fin 112) (n : Fin 128) : out0_11 x0 x1 x2 x3 x4 x5 x6 x7 x8 (ix3 i h n) = scaleR (argsOf x0 x1 x2 x3 x4 x5 x6 x7 x8) i h n := by
  have e : out0_11 x0 x1 x2 x3 x4 x5 x6 x7 x8 = k0_pay2 (k0_pay11 (k0_pay4 x7 x8) (k0_pay5 x0) (k0_pay6 x1 x2) (k0_pay7 x1 x2 x3) (k0_pay8 x4)) (k0_pay12 (k0_pay4 x7 x8) (k0_pay5 x0) (k0_pay6 x1 x2) (k0_pay7 x1 x2 x3) (k0_pay8 x4)) (Scalar.ofBits .f32 0x7F000000#32) := by
    frame_out
    rw [p18, p19]
  have et := t_at x0 x1 x2 x3 x4 x5 x6 x7 x8 i h n
  rw [e]
  refine (scale_at _ _ i h n ((exp_at x0 x1 x2 x3 x4 x5 x6 x7 x8 i h n).trans (congrArg rexp et.symm))).trans ?_
  rw [et]
  rfl
end Out

variable (m : (ℓ : Loc nD τ sig) → Buf (Elt Ideal) ℓ) (ρ : Dev nD → PrngReg) (c : Dev nD)

/-- A row number in the pool is not wrapped. -/
theorem unwrapped (w : BitVec 32) (h : w.toNat < 53) : Scalar.select (IntOp.cmpi CmpIPredicate.slt w 0#32) (IntOp.addi w 53#32) w = w := by
  have e : IntOp.cmpi CmpIPredicate.slt w 0#32 = 0#1 := by
    have : ¬ w.slt 0#32 := by
      rw [BitVec.slt_iff_toInt_lt, BitVec.toInt_eq_toNat_of_lt (by omega)]
      simp
    simp [IntOp.cmpi, this]
  rw [e]
  rfl

theorem ids_at (i : Fin 40) (hP : ((m ((c : Thread nD τ).loc main_arg9) : IVec S40 32) (ix1 i)).toNat < 53) :
    (V m c main_v5 : IVec S40x1 32) (ix2 i 0) = (m ((c : Thread nD τ).loc main_arg9) : IVec S40 32) (ix1 i) := by
  unfold V
  after_reads_at
  exact unwrapped _ hP
theorem ids_at' (i : Fin 40) (hP : ((m ((c : Thread nD τ).loc main_arg9) : IVec S40 32) (ix1 i)).toNat < 53) :
    (V m c main_v12 : IVec S40x1 32) (ix2 i 0) = (m ((c : Thread nD τ).loc main_arg9) : IVec S40 32) (ix1 i) := by
  unfold V
  after_reads_at
  exact unwrapped _ hP

theorem codes_gather (x : S53x112x128x64.Idx → EReal) (ids : IVec S40x1 32) (i : Fin 40) (h : Fin 112) (n : Fin 128) (p : Fin 64) :
    Host.gather gather_S53x112x128x64_S40x1_S40x112x128x64_123_0_n_n_0_1_111212864 x ids (ix4 i h n p) = x (ix4 ⟨min (ids (ix2 i 0)).toInt.toNat 52, by omega⟩ h n p) := by
  unfold Host.gather
  congr 1
  funext a
  refine Fin.ext ?_
  show GatherDims.start gather_S53x112x128x64_S40x1_S40x112x128x64_123_0_n_n_0_1_111212864 _ ids a + GatherDims.batchCoord gather_S53x112x128x64_S40x1_S40x112x128x64_123_0_n_n_0_1_111212864 _ a + GatherDims.offCoord gather_S53x112x128x64_S40x1_S40x112x128x64_123_0_n_n_0_1_111212864 _ a = _
  rw [GatherDims.batchCoord_eq_zero _ _ _ List.not_mem_nil]
  have hk : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hk with rfl | rfl | rfl | rfl
  · rw [GatherDims.offCoord_eq_zero _ _ _ (fun h => ((GatherDims.mem_sKept _ _).mp h).1 (List.mem_singleton.mpr rfl))]
    unfold GatherDims.start
    rw [dif_pos (show (0 : Fin 4) ∈ gather_S53x112x128x64_S40x1_S40x112x128x64_123_0_n_n_0_1_111212864.startIndexMap from List.mem_singleton.mpr rfl)]
    have hsi : gather_S53x112x128x64_S40x1_S40x112x128x64_123_0_n_n_0_1_111212864.siIdx (ix4 i h n p) ⟨List.idxOf (0 : Fin 4) gather_S53x112x128x64_S40x1_S40x112x128x64_123_0_n_n_0_1_111212864.startIndexMap,
        List.idxOf_lt_length_iff.2 (List.mem_singleton.mpr rfl)⟩ = (ix2 i 0 : S40x1.Idx) := by
      funext b; refine Fin.ext ?_
      match b with
      | ⟨0, _⟩ => rfl
      | ⟨1, _⟩ => rfl
    rw [hsi]
    rfl
  · unfold GatherDims.start
    rw [dif_neg (show (1 : Fin 4) ∉ gather_S53x112x128x64_S40x1_S40x112x128x64_123_0_n_n_0_1_111212864.startIndexMap from (by decide : (1 : Fin 4) ∉ [0]))]
    exact Nat.zero_add _
  · unfold GatherDims.start
    rw [dif_neg (show (2 : Fin 4) ∉ gather_S53x112x128x64_S40x1_S40x112x128x64_123_0_n_n_0_1_111212864.startIndexMap from (by decide : (2 : Fin 4) ∉ [0]))]
    exact Nat.zero_add _
  · unfold GatherDims.start
    rw [dif_neg (show (3 : Fin 4) ∉ gather_S53x112x128x64_S40x1_S40x112x128x64_123_0_n_n_0_1_111212864.startIndexMap from (by decide : (3 : Fin 4) ∉ [0]))]
    exact Nat.zero_add _

theorem scale_gather (x : S53x112x128.Idx → EReal) (ids : IVec S40x1 32) (i : Fin 40) (h : Fin 112) (n : Fin 128) :
    Host.gather gather_S53x112x128_S40x1_S40x112x128_12_0_n_n_0_1_1112128 x ids (ix3 i h n) = x (ix3 ⟨min (ids (ix2 i 0)).toInt.toNat 52, by omega⟩ h n) := by
  unfold Host.gather
  congr 1
  funext a
  refine Fin.ext ?_
  show GatherDims.start gather_S53x112x128_S40x1_S40x112x128_12_0_n_n_0_1_1112128 _ ids a + GatherDims.batchCoord gather_S53x112x128_S40x1_S40x112x128_12_0_n_n_0_1_1112128 _ a + GatherDims.offCoord gather_S53x112x128_S40x1_S40x112x128_12_0_n_n_0_1_1112128 _ a = _
  rw [GatherDims.batchCoord_eq_zero _ _ _ List.not_mem_nil]
  have hk : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S53x112x128_S40x1_S40x112x128_12_0_n_n_0_1_1112128.startIndexMap from List.mem_singleton.mpr rfl)]
    have hsi : gather_S53x112x128_S40x1_S40x112x128_12_0_n_n_0_1_1112128.siIdx (ix3 i h n) ⟨List.idxOf (0 : Fin 3) gather_S53x112x128_S40x1_S40x112x128_12_0_n_n_0_1_1112128.startIndexMap,
        List.idxOf_lt_length_iff.2 (List.mem_singleton.mpr rfl)⟩ = (ix2 i 0 : S40x1.Idx) := by
      funext b; refine Fin.ext ?_
      match b with
      | ⟨0, _⟩ => rfl
      | ⟨1, _⟩ => rfl
    rw [hsi]
    rfl
  · unfold GatherDims.start
    rw [dif_neg (show (1 : Fin 3) ∉ gather_S53x112x128_S40x1_S40x112x128_12_0_n_n_0_1_1112128.startIndexMap from (by decide : (1 : Fin 3) ∉ [0]))]
    exact Nat.zero_add _
  · unfold GatherDims.start
    rw [dif_neg (show (2 : Fin 3) ∉ gather_S53x112x128_S40x1_S40x112x128_12_0_n_n_0_1_1112128.startIndexMap from (by decide : (2 : Fin 3) ∉ [0]))]
    exact Nat.zero_add _

/-! ## The blocks are the arrays -/

theorem blk0 (t : Fin cfg0.N) : iblk m c 0 t = V m c main_arg0 := by
  funext y
  blk_ext [iblk] <;> exact Nat.zero_add _
theorem blk1 (t : Fin cfg0.N) : iblk m c 1 t = V m c main_arg1 := by
  funext y
  blk_ext [iblk] <;> exact Nat.zero_add _
theorem blk2 (t : Fin cfg0.N) : iblk m c 2 t = V m c main_arg2 := by
  funext y
  blk_ext [iblk] <;> exact Nat.zero_add _
theorem blk3 (t : Fin cfg0.N) : iblk m c 3 t = V m c main_arg3 := by
  funext y
  blk_ext [iblk] <;> exact Nat.zero_add _
theorem blk4 (t : Fin cfg0.N) : iblk m c 4 t = V m c main_arg4 := by
  funext y
  blk_ext [iblk] <;> exact Nat.zero_add _
theorem blk5 (t : Fin cfg0.N) : iblk m c 5 t = V m c main_arg5 := by
  funext y
  blk_ext [iblk] <;> exact Nat.zero_add _
theorem blk6 (t : Fin cfg0.N) : iblk m c 6 t = V m c main_arg6 := by
  funext y
  blk_ext [iblk] <;> exact Nat.zero_add _
theorem blk7 (t : Fin cfg0.N) : iblk m c 7 t = V m c main_v6 := by
  funext y
  blk_ext [iblk] <;> exact Nat.zero_add _
theorem blk8 (t : Fin cfg0.N) : iblk m c 8 t = V m c main_v13 := by
  funext y
  blk_ext [iblk] <;> exact Nat.zero_add _

/-- The arguments the windows stage, read as plain functions. -/
def refArgs : Args := argsOf (V m c main_arg0) (V m c main_arg1) (V m c main_arg2) (V m c main_arg3) (V m c main_arg4) (V m c main_arg5) (V m c main_arg6) (V m c main_v6) (V m c main_v13)

def refY : S40x112x64.Idx → EReal := fun y => yR (refArgs m c) (y 0) (y 1) (y 2)
def refCodes : S40x112x128x64.Idx → EReal := fun y => codesR (refArgs m c) (y 0) (y 1) (y 2) (y 3)
def refScale : S40x112x128.Idx → EReal := fun y => scaleR (refArgs m c) (y 0) (y 1) (y 2)

theorem idx3 {a b c : ℕ} (y : (⟨3, ![a, b, c]⟩ : Shape).Idx) : y = ix3 (y 0) (y 1) (y 2) :=
  funext fun k => by match k with | ⟨0, _⟩ => rfl | ⟨1, _⟩ => rfl | ⟨2, _⟩ => rfl
theorem idx4 {a b c d : ℕ} (y : (⟨4, ![a, b, c, d]⟩ : Shape).Idx) : y = ix4 (y 0) (y 1) (y 2) (y 3) :=
  funext fun k => by match k with | ⟨0, _⟩ => rfl | ⟨1, _⟩ => rfl | ⟨2, _⟩ => rfl | ⟨3, _⟩ => rfl

theorem arr9 : (dats m 0 c).arrAt 9 cfg0.N = refY m c := by
  refine (dats m 0 c).arrAt_eq_of_after_last 9 t0_0 (by decide +kernel) _ fun (j : S40x112x64.Idx) => ?_
  blk_simp
  rw [after0_9, blk0, blk1, blk2, blk3, blk4, blk5, blk6, blk7, blk8]
  exact (congrArg _ (idx3 j)).trans (out9_at (V m c main_arg0) (V m c main_arg1) (V m c main_arg2) (V m c main_arg3) (V m c main_arg4) (V m c main_arg5) (V m c main_arg6) (V m c main_v6) (V m c main_v13) (j 0) (j 1) (j 2))
theorem arr10 : (dats m 0 c).arrAt 10 cfg0.N = refCodes m c := by
  refine (dats m 0 c).arrAt_eq_of_after_last 10 t0_0 (by decide +kernel) _ fun (j : S40x112x128x64.Idx) => ?_
  blk_simp
  rw [after0_10, blk0, blk1, blk2, blk3, blk4, blk5, blk6, blk7, blk8]
  exact (congrArg _ (idx4 j)).trans (out10_at (V m c main_arg0) (V m c main_arg1) (V m c main_arg2) (V m c main_arg3) (V m c main_arg4) (V m c main_arg5) (V m c main_arg6) (V m c main_v6) (V m c main_v13) (j 0) (j 1) (j 2) (j 3))
theorem arr11 : (dats m 0 c).arrAt 11 cfg0.N = refScale m c := by
  refine (dats m 0 c).arrAt_eq_of_after_last 11 t0_0 (by decide +kernel) _ fun (j : S40x112x128.Idx) => ?_
  blk_simp
  rw [after0_11, blk0, blk1, blk2, blk3, blk4, blk5, blk6, blk7, blk8]
  exact (congrArg _ (idx3 j)).trans (out11_at (V m c main_arg0) (V m c main_arg1) (V m c main_arg2) (V m c main_arg3) (V m c main_arg4) (V m c main_arg5) (V m c main_arg6) (V m c main_v6) (V m c main_v13) (j 0) (j 1) (j 2))

theorem v6_eq : (V m c main_v6 : S40x112x128x64.Idx → EReal) = Host.gather gather_S53x112x128x64_S40x1_S40x112x128x64_123_0_n_n_0_1_111212864 (m ((c : Thread nD τ).loc main_arg7) : S53x112x128x64.Idx → EReal) (V m c main_v5 : IVec S40x1 32) := by
  unfold V
  after_results
theorem v13_eq : (V m c main_v13 : S40x112x128.Idx → EReal) = Host.gather gather_S53x112x128_S40x1_S40x112x128_12_0_n_n_0_1_1112128 (m ((c : Thread nD τ).loc main_arg8) : S53x112x128.Idx → EReal) (V m c main_v12 : IVec S40x1 32) := by
  unfold V
  after_results

/-- A row number in the pool, read signed and clamped, is itself. -/
theorem clamp_row (w : BitVec 32) (h : w.toNat < 53) : min w.toInt.toNat 52 = min w.toNat 52 := by
  rw [BitVec.toInt_eq_toNat_of_lt (by omega), Int.toNat_natCast]

/-- The pool's codes, at the rows picked. -/
theorem v6_at (i : Fin 40) (hP : ((m ((c : Thread nD τ).loc main_arg9) : IVec S40 32) (ix1 i)).toNat < 53) (h : Fin 112) (n : Fin 128) (p : Fin 64) :
    (V m c main_v6 : S40x112x128x64.Idx → EReal) (ix4 i h n p) = (m ((c : Thread nD τ).loc main_arg7) : S53x112x128x64.Idx → EReal) (ix4 ⟨min ((m ((c : Thread nD τ).loc main_arg9) : IVec S40 32) (ix1 i)).toNat 52, by omega⟩ h n p) := by
  rw [v6_eq, codes_gather]
  refine congrArg (fun k => (m ((c : Thread nD τ).loc main_arg7) : S53x112x128x64.Idx → EReal) (ix4 k h n p)) (Fin.ext ?_)
  show min _ 52 = _
  rw [ids_at m c i hP]
  exact clamp_row _ hP
/-- The pool's scales, at the rows picked. -/
theorem v13_at (i : Fin 40) (hP : ((m ((c : Thread nD τ).loc main_arg9) : IVec S40 32) (ix1 i)).toNat < 53) (h : Fin 112) (n : Fin 128) :
    (V m c main_v13 : S40x112x128.Idx → EReal) (ix3 i h n) = (m ((c : Thread nD τ).loc main_arg8) : S53x112x128.Idx → EReal) (ix3 ⟨min ((m ((c : Thread nD τ).loc main_arg9) : IVec S40 32) (ix1 i)).toNat 52, by omega⟩ h n) := by
  rw [v13_eq, scale_gather]
  refine congrArg (fun k => (m ((c : Thread nD τ).loc main_arg8) : S53x112x128.Idx → EReal) (ix3 k h n)) (Fin.ext ?_)
  show min _ 52 = _
  rw [ids_at' m c i hP]
  exact clamp_row _ hP

/-- THE REFERENCE'S RUN: the three results as named, the arguments as they were. -/
theorem run : θ_run defs (onTc (τ := τ) (main (F := Ideal))) ⟨m, fun _ => 0, ρ⟩ (fun r => ∀ c : Dev nD,
      r.2.mem ((c.tc : Thread nD τ).loc main_v14_0) = refY m c
      ∧ r.2.mem ((c.tc : Thread nD τ).loc main_v14_1) = refCodes m c
      ∧ r.2.mem ((c.tc : Thread nD τ).loc main_v14_2) = refScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine θ_run_mono (θ_run_and (run_main m ρ) (Gen.frame m ρ)) ?_
  rintro r ⟨h1, h2, -⟩ c
  exact ⟨((h1 c).1 9).trans (arr9 m c), ((h1 c).1 10).trans (arr10 m c), ((h1 c).1 11).trans (arr11 m c), h2 c⟩

end Cert.ReferenceIdeal.Val

end
-- ==== Proof.ValMain.lean ====
/- The kernel's ideal program computes what the reference computes: the three results, over real arguments with their rows in the pool. -/
module

public import proofs.«01_k».proof.Defs
public import proofs.«01_k».proof.Proof.ValRes
public import proofs.«01_k».proof.Proof.ValEq
public import proofs.«01_k».proof.Proof.ValRefRun
public import proofs.«01_k».proof.Proof.FiniteFacts

@[expose] public section

noncomputable section

namespace Cert.Value

open Idealize.ShloMosaic Idealize.ShloMosaic.TcCoe Idealize.SL.Sem
open Cert.Spec
open Cert.KernelIdeal.Run (grp hNew tq codesV scaleV clampV kscale_eq kinv_eq InPool Real_ real_of_finite yV yRow)
open Cert.KernelIdeal.Val (args kY kCodes kScale resY resCodes k3 k4 k5 k6 k7 k8 kdec kdx row)

section Kernel

variable (m : (ℓ : Loc Cert.KernelIdeal.nD Cert.KernelIdeal.τ Cert.KernelIdeal.sig) → Buf (Elt Ideal) ℓ) (c : Dev Cert.KernelIdeal.nD)

/-- The arguments that must be real, are. -/
theorem realArgs (h : Real_ m) : RealArgs (args m c) := by
  obtain rfl : c = 0 := Subsingleton.elim _ _
  exact { x := fun _ _ _ => h.x _, dt := fun _ _ => h.dt _, bias := fun _ => h.bias _, B := fun _ _ _ => h.B _, C := fun _ _ _ => h.C _ }

/-- The kernel's new state is the reference's: the products in another order. -/
theorem hNew_eq (i : Fin 40) (h : Fin 112) (p : Fin 64) (n : Fin 128) :
    hNew (k5 m c i) (k7 m c i) (k8 m c i) (kdec m c i) (kdx m c i) h p n = hNewR (args m c) i h n p := by
  show (args m c).codes i h n p * ((args m c).scale i h n * decay (args m c) i h) + delta (args m c) i h * (args m c).x i h p * (args m c).B i (grp h) n = _
  unfold hNewR
  rw [← mul_assoc, mul_comm _ (decay _ _ _), mul_comm _ ((args m c).B _ _ _)]

theorem tq_eq (i : Fin 40) (h : Fin 112) (n : Fin 128) :
    tq (k5 m c i) (k7 m c i) (k8 m c i) (kdec m c i) (kdx m c i) h n = tR (args m c) i h n := by
  unfold tq tR
  simp only [hNew_eq]

theorem scale_eq (i : Fin 40) (h : Fin 112) (n : Fin 128) :
    scaleV (k5 m c i) (k7 m c i) (k8 m c i) (kdec m c i) (kdx m c i) h n = scaleR (args m c) i h n := by
  unfold scaleV scaleR
  rw [tq_eq, kscale_eq _ (tR_nonneg i h n)]

theorem codes_eq (i : Fin 40) (h : Fin 112) (p : Fin 64) (n : Fin 128) :
    codesV (k5 m c i) (k7 m c i) (k8 m c i) (kdec m c i) (kdx m c i) h p n = codesR (args m c) i h n p := by
  unfold codesV codesR
  rw [tq_eq, hNew_eq, kinv_eq _ (tR_nonneg i h n)]

theorem out_eq (h : Real_ m) (i : Fin 40) (hd : Fin 112) (p : Fin 64) :
    yV (k3 m c) (k4 m c i) (k5 m c i) (k6 m c i) (k7 m c i) (k8 m c i) (kdec m c i) (kdx m c i) (ix3 0 p hd) = yR (args m c) i hd p :=
  y_eq (realArgs m c h) i hd p

end Kernel

section Both

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments, read as plain functions, are the same. -/
theorem args_eq (hP : InPool m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Val.refArgs m' c = args m c := by
  have hR : ∀ i : Fin 40, ((m' ((c.tc : Thread Cert.ReferenceIdeal.nD Cert.ReferenceIdeal.τ).loc Cert.ReferenceIdeal.main_arg9) : IVec Cert.ReferenceIdeal.S40 32) (ix1 i)).toNat < 53 := by
    intro i
    obtain rfl : c = 0 := Subsingleton.elim _ _
    rw [e9]
    exact hP (ix1 i)
  have r : ∀ i : Fin 40, (⟨min ((m' ((c.tc : Thread Cert.ReferenceIdeal.nD Cert.ReferenceIdeal.τ).loc Cert.ReferenceIdeal.main_arg9) : IVec Cert.ReferenceIdeal.S40 32) (ix1 i)).toNat 52, by omega⟩ : Fin 53) = row m c i :=
    fun i => Fin.ext (congrArg (fun w : BitVec 32 => min w.toNat 52) (congrFun e9 (ix1 i)))
  unfold Cert.ReferenceIdeal.Val.refArgs Cert.ReferenceIdeal.Val.argsOf args
  congr 1
  · exact funext fun i => funext fun h => funext fun p => (congrFun (Cert.ReferenceIdeal.Gen.V_main_arg0 m' c) _).trans (congrFun e0 _)
  · exact funext fun i => funext fun h => (congrFun (Cert.ReferenceIdeal.Gen.V_main_arg1 m' c) _).trans (congrFun e1 _)
  · exact funext fun h => (congrFun (Cert.ReferenceIdeal.Gen.V_main_arg2 m' c) _).trans (congrFun e2 _)
  · exact funext fun h => (congrFun (Cert.ReferenceIdeal.Gen.V_main_arg3 m' c) _).trans (congrFun e3 _)
  · exact funext fun i => funext fun g => funext fun n => (congrFun (Cert.ReferenceIdeal.Gen.V_main_arg4 m' c) _).trans (congrFun e4 _)
  · exact funext fun i => funext fun g => funext fun n => (congrFun (Cert.ReferenceIdeal.Gen.V_main_arg5 m' c) _).trans (congrFun e5 _)
  · exact funext fun h => (congrFun (Cert.ReferenceIdeal.Gen.V_main_arg6 m' c) _).trans (congrFun e6 _)
  · exact funext fun i => funext fun h => funext fun n => funext fun p => (Cert.ReferenceIdeal.Val.v6_at m' c i (hR i) h n p).trans ((congrFun e7 _).trans
      (congrArg (fun k => (m ((c.tc : Thread Cert.KernelIdeal.nD Cert.KernelIdeal.τ).loc Cert.KernelIdeal.main_arg7) : Cert.KernelIdeal.S53x112x128x64.Idx → EReal) (ix4 k h n p)) (r i)))
  · exact funext fun i => funext fun h => funext fun n => (Cert.ReferenceIdeal.Val.v13_at m' c i (hR i) h n).trans ((congrFun e8 _).trans
      (congrArg (fun k => (m ((c.tc : Thread Cert.KernelIdeal.nD Cert.KernelIdeal.τ).loc Cert.KernelIdeal.main_arg8) : Cert.KernelIdeal.S53x112x128.Idx → EReal) (ix3 k h n)) (r i)))

variable (hA : Cert.ReferenceIdeal.Val.refArgs m' c = args m c)
include hA

theorem resY_eq (h : Real_ m) : Cert.ReferenceIdeal.Val.refY m' c = resY m c :=
  funext fun y => (congrArg (fun a => yR a (y 0) (y 1) (y 2)) hA).trans (out_eq m c h (y 0) (y 1) (y 2)).symm
theorem resCodes_eq : Cert.ReferenceIdeal.Val.refCodes m' c = resCodes m c :=
  funext fun y => (congrArg (fun a => codesR a (y 0) (y 1) (y 2) (y 3)) hA).trans (codes_eq m c (y 0) (y 1) (y 3) (y 2)).symm
theorem resScale_eq : Cert.ReferenceIdeal.Val.refScale m' c = kScale m c :=
  funext fun y => (congrArg (fun a => scaleR a (y 0) (y 1) (y 2)) hA).trans (scale_eq m c (y 0) (y 1) (y 2)).symm

end Both

/-- THE VALUE CLAIM: from the same arguments the two programs end with the same three results. -/
theorem algebraic : Cert.algebraic_KernelIdeal_ReferenceIdeal_pre_finite := by
  intro m g m' g' hpre hargs
  have hR : Real_ m := real_of_finite m hpre
  have hA : ∀ c, Cert.ReferenceIdeal.Val.refArgs m' c = args m c := fun c => by
    obtain ⟨e0, e1, e2, e3, e4, e5, e6, e7, e8, e9⟩ := hargs c
    exact args_eq m m' c hR.inPool e0 e1 e2 e3 e4 e5 e6 e7 e8 e9
  refine ⟨fun c => resY m c, fun c => resCodes m c, fun c => kScale m c, Cert.KernelIdeal.Val.run m g hR.inPool, ?_⟩
  refine θ_run_mono (Cert.ReferenceIdeal.Val.run m' g') ?_
  intro r h c
  obtain ⟨h0, h1, h2, h3⟩ := h c
  exact ⟨h0.trans (resY_eq m m' c (hA c) hR), h1.trans (resCodes_eq m m' c (hA c)), h2.trans (resScale_eq m m' c (hA c)), h3⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_pool
public import proofs.«01_k».proof.Proof.IdealFrame
public import proofs.«01_k».proof.Proof.BitsFrame
public import proofs.«01_k».proof.Proof.IdealReady
public import proofs.«01_k».proof.Proof.BitsReady
public import proofs.«01_k».proof.Proof.FiniteFacts
public import proofs.«01_k».proof.Proof.ValMain
public import Idealize.ShloMosaic.Adequacy
public import Idealize.ShloMosaic.Init

@[expose] public section

noncomputable section

namespace Cert.Proof

open Idealize.ShloMosaic Idealize.SL.Sem Cert.Kernel

/-- The claim: the kernel, its ideal program and the reference run and leave their arguments unchanged, the ideal program is the kernel's own text, and it computes the reference's three results. -/
theorem claim : Cert.Claim :=
  ⟨Cert.Kernel.Gen.facts, Cert.KernelIdeal.Gen.facts, Cert.ReferenceIdeal.Gen.facts, Cert.Pre_in_pool.Gen.facts, Cert.Pre_finite.facts,
    fun m ρ h => Cert.Kernel.Run.frame m ρ (Cert.Kernel.Run.ok_of_inPool m (Cert.Kernel.Run.inPool_of_in_pool m h)),
    fun m ρ h => Cert.KernelIdeal.Run.frame m ρ (Cert.KernelIdeal.Run.ok_of_inPool m (Cert.KernelIdeal.Run.inPool_of_in_pool m h)),
    fun m ρ h => Cert.KernelIdeal.Run.frame m ρ (Cert.KernelIdeal.Run.ok_of_inPool m (Cert.KernelIdeal.Run.real_of_finite m h).inPool),
    fun m ρ _ => Cert.ReferenceIdeal.Gen.frame m ρ,
    fun m ρ _ => Cert.ReferenceIdeal.Gen.frame m ρ,
    trivial,
    Cert.Value.algebraic⟩

end Cert.Proof

end
